-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S16384 : Shape := ⟨1, ![16384]⟩
abbrev S100001x128 : Shape := ⟨2, ![100001, 128]⟩
abbrev S1000001x128 : Shape := ⟨2, ![1000001, 128]⟩
abbrev S256x1024 : Shape := ⟨2, ![256, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S100001x128 .f32) (main_arg3 : FVec F S1000001x128 .f32) (main_arg4 : FVec F S256x1024 .f32) (main_arg5 : FVec F S1024 .f32) (main_arg6 : FVec F S1024x512 .f32) (main_arg7 : FVec F S512 .f32) (main_arg8 : FVec F S512x256 .f32) (main_arg9 : FVec F S256 .f32) (main_arg10 : FVec F S256x1 .f32) (main_arg11 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 1000000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  main_v12
-- ==== Kernel.lean ====
abbrev S16384 : Shape := ⟨1, ![16384]⟩
abbrev S100001x128 : Shape := ⟨2, ![100001, 128]⟩
abbrev S1000001x128 : Shape := ⟨2, ![1000001, 128]⟩
abbrev S256x1024 : Shape := ⟨2, ![256, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S16384x256 : Shape := ⟨2, ![16384, 256]⟩
abbrev S512x128 : Shape := ⟨2, ![512, 128]⟩
abbrev S_ : Shape := ⟨0, ![]⟩
abbrev S16384x1 : Shape := ⟨2, ![16384, 1]⟩
abbrev S4096x256 : Shape := ⟨2, ![4096, 256]⟩
abbrev S4096x1 : Shape := ⟨2, ![4096, 1]⟩
abbrev S4096x1024 : Shape := ⟨2, ![4096, 1024]⟩
abbrev S1x1024 : Shape := ⟨2, ![1, 1024]⟩
abbrev S4096x512 : Shape := ⟨2, ![4096, 512]⟩
abbrev S1x512 : Shape := ⟨2, ![1, 512]⟩
abbrev S1x256 : Shape := ⟨2, ![1, 256]⟩
abbrev S4096 : Shape := ⟨1, ![4096]⟩

abbrev nBuf : Table → Nat
  | .hbm => 16
  | .local .tc .vmem => 12
  | .local .scVector .vmem => 2
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100001x128, .f32⟩
  | .hbm, ⟨3, _⟩ => ⟨S1000001x128, .f32⟩
  | .hbm, ⟨4, _⟩ => ⟨S256x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S16384x256, .f32⟩
  | .hbm, ⟨13, _⟩ => ⟨S256, .f32⟩
  | .hbm, ⟨14, _⟩ => ⟨S16384x1, .f32⟩
  | .hbm, ⟨15, _⟩ => ⟨S16384, .f32⟩
  | .local .tc .vmem, ⟨0, _⟩ => ⟨S4096x256, .f32⟩
  | .local .tc .vmem, ⟨1, _⟩ => ⟨S4096x256, .f32⟩
  | .local .tc .vmem, ⟨2, _⟩ => ⟨S256x1024, .f32⟩
  | .local .tc .vmem, ⟨3, _⟩ => ⟨S1024, .f32⟩
  | .local .tc .vmem, ⟨4, _⟩ => ⟨S1024x512, .f32⟩
  | .local .tc .vmem, ⟨5, _⟩ => ⟨S512, .f32⟩
  | .local .tc .vmem, ⟨6, _⟩ => ⟨S512x256, .f32⟩
  | .local .tc .vmem, ⟨7, _⟩ => ⟨S256, .f32⟩
  | .local .tc .vmem, ⟨8, _⟩ => ⟨S256, .f32⟩
  | .local .tc .vmem, ⟨9, _⟩ => ⟨S1, .f32⟩
  | .local .tc .vmem, ⟨10, _⟩ => ⟨S4096x1, .f32⟩
  | .local .tc .vmem, ⟨11, _⟩ => ⟨S4096x1, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 12, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_stg9_1 : Ref sig .tc := ⟨.vmem, 11, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem9_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7_r1 : BitVec 32 := 0#32
  ![v2.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c128_i32_r3 : BitVec 32 := 128#32
  ![v2.toNat, 128]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4096x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S100001x128 : Shape := ⟨2, ![100001, 128]⟩
abbrev S1000001x128 : Shape := ⟨2, ![1000001, 128]⟩
abbrev S256x1024 : Shape := ⟨2, ![256, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S16384x256 : Shape := ⟨2, ![16384, 256]⟩
abbrev S16384x1024 : Shape := ⟨2, ![16384, 1024]⟩
abbrev S1x1024 : Shape := ⟨2, ![1, 1024]⟩
abbrev S16384x512 : Shape := ⟨2, ![16384, 512]⟩
abbrev S1x512 : Shape := ⟨2, ![1, 512]⟩
abbrev S1x256 : Shape := ⟨2, ![1, 256]⟩

abbrev nBuf : Space → Nat
  | .hbm => 93
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S100001x128, .f32⟩
  | .hbm, ⟨3, _⟩ => ⟨S1000001x128, .f32⟩
  | .hbm, ⟨4, _⟩ => ⟨S256x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S1, .i32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S1x1, .i32⟩
  | .hbm, ⟨25, _⟩ => ⟨S16384x1, .i32⟩
  | .hbm, ⟨26, _⟩ => ⟨S16384x1, .i1⟩
  | .hbm, ⟨27, _⟩ => ⟨S16384x1, .i1⟩
  | .hbm, ⟨28, _⟩ => ⟨S_, .i1⟩
  | .hbm, ⟨29, _⟩ => ⟨S16384, .i1⟩
  | .hbm, ⟨30, _⟩ => ⟨S16384x128, .f32⟩
  | .hbm, ⟨31, _⟩ => ⟨S16384x128, .i1⟩
  | .hbm, ⟨32, _⟩ => ⟨S_, .f32⟩
  | .hbm, ⟨33, _⟩ => ⟨S16384x128, .f32⟩
  | .hbm, ⟨34, _⟩ => ⟨S16384x128, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S1, .i32⟩
  | .hbm, ⟨44, _⟩ => ⟨S_, .i32⟩
  | .hbm, ⟨45, _⟩ => ⟨S16384x1, .i32⟩
  | .hbm, ⟨46, _⟩ => ⟨S16384x1, .i1⟩
  | .hbm, ⟨47, _⟩ => ⟨S1x1, .i32⟩
  | .hbm, ⟨48, _⟩ => ⟨S16384x1, .i32⟩
  | .hbm, ⟨49, _⟩ => ⟨S16384x1, .i1⟩
  | .hbm, ⟨50, _⟩ => ⟨S16384x1, .i1⟩
  | .hbm, ⟨51, _⟩ => ⟨S_, .i1⟩
  | .hbm, ⟨52, _⟩ => ⟨S16384, .i1⟩
  | .hbm, ⟨53, _⟩ => ⟨S16384x128, .f32⟩
  | .hbm, ⟨54, _⟩ => ⟨S16384x128, .i1⟩
  | .hbm, ⟨55, _⟩ => ⟨S_, .f32⟩
  | .hbm, ⟨56, _⟩ => ⟨S16384x128, .f32⟩
  | .hbm, ⟨57, _⟩ => ⟨S16384x128, .f32⟩
  | .hbm, ⟨58, _⟩ => ⟨S16384x256, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S16384x512, .f32⟩
  | .hbm, ⟨67, _⟩ => ⟨S1x512, .f32⟩
  | .hbm, ⟨68, _⟩ => ⟨S16384x512, .f32⟩
  | .hbm, ⟨69, _⟩ => ⟨S16384x512, .f32⟩
  | .hbm, ⟨70, _⟩ => ⟨S_, .f32⟩
  | .hbm, ⟨71, _⟩ => ⟨S16384x512, .f32⟩
  | .hbm, ⟨72, _⟩ => ⟨S16384x512, .f32⟩
  | .hbm, ⟨73, _⟩ => ⟨S16384x256, .f32⟩
  | .hbm, ⟨74, _⟩ => ⟨S1x256, .f32⟩
  | .hbm, ⟨75, _⟩ => ⟨S16384x256, .f32⟩
  | .hbm, ⟨76, _⟩ => ⟨S16384x256, .f32⟩
  | .hbm, ⟨77, _⟩ => ⟨S_, .f32⟩
  | .hbm, ⟨78, _⟩ => ⟨S16384x256, .f32⟩
  | .hbm, ⟨79, _⟩ => ⟨S16384x256, .f32⟩
  | .hbm, ⟨80, _⟩ => ⟨S16384x1, .f32⟩
  | .hbm, ⟨81, _⟩ => ⟨S1x1, .f32⟩
  | .hbm, ⟨82, _⟩ => ⟨S16384x1, .f32⟩
  | .hbm, ⟨83, _⟩ => ⟨S16384x1, .f32⟩
  | .hbm, ⟨84, _⟩ => ⟨S16384x1, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v1 : Ref sig .tc := ⟨.hbm, 57, rfl⟩
abbrev main_v2 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_call2_cst : Ref sig .tc := ⟨.hbm, 63, rfl⟩
abbrev main_call2_v0 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_call3_cst : Ref sig .tc := ⟨.hbm, 70, rfl⟩
abbrev main_call3_v0 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_call4_cst : Ref sig .tc := ⟨.hbm, 77, rfl⟩
abbrev main_call4_v0 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_cst : Ref sig .tc := ⟨.hbm, 86, rfl⟩
abbrev main_v24 : Ref sig .tc := ⟨.hbm, 87, rfl⟩
abbrev main_v25 : Ref sig .tc := ⟨.hbm, 88, rfl⟩
abbrev main_cst_0 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩

abbrev nD : Nat := 1
abbrev τ : Topo := Topo.v7x

variable {F : FTy → Type} [FloatOps F]
-- ==== Proof.Setup.lean ====
/-
  What the kernel's proofs share: the program as the launch of its SparseCore call sees it, the resource algebra, the
  rows each task works on, and the table `xVal` of feature rows the call leaves in its result: row `r` is the user
  table's row `user r` followed by the item table's row `item r`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.ShareLeaves
public import Idealize.ShloMosaic.Lib.ValueIdx
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type}

/-! ## The program as the launch sees it -/

/-- The labels of the program below its SparseCore call. -/
abbrev ΛP : Labels := Pipeline.Sig Λ₀ (Fin 1) fun p => (pcfgs (F := F) p).Adm
/-- The program's one SparseCore call. -/
abbrev K : SparseCore.Cfg τ sig (ΛP (F := F)) 1 := sc (F := F)
theorem nSub_zero : (K (F := F)).nSub 0 = 16 := rfl
theorem nCore_zero : (K (F := F)).nCore 0 = 2 := rfl
/-- The bodies the SparseCore call's dispatch stands over. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores and the buffers are as a SparseCore call needs them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

/-- The machine's algebra of this proof. -/
abbrev MM (F : FTy → Type) : Type := MT nD τ sig (HIx 1) (Elt F) ℕ UU ℕ

local notation "𝕄" => MM F

abbrev EH : Emb UH (MM F) := embL
abbrev EP : Emb UP (MM F) := (Emb.inl : Emb UP (UP × Counters)).trans embR

/-! ## The buffers -/

abbrev uLoc (d : Dev nD) : Loc nD τ sig := (SparseCore.T d).loc main_arg0
abbrev iLoc (d : Dev nD) : Loc nD τ sig := (SparseCore.T d).loc main_arg1
abbrev utLoc (d : Dev nD) : Loc nD τ sig := (SparseCore.T d).loc main_arg2
abbrev itLoc (d : Dev nD) : Loc nD τ sig := (SparseCore.T d).loc main_arg3
abbrev xLoc (d : Dev nD) : Loc nD τ sig := (SparseCore.T d).loc main_v0

abbrev uV : Memref sig .scVector .hbm S16384 .i32 := Memref.whole main_arg0_scv
abbrev iV : Memref sig .scVector .hbm S16384 .i32 := Memref.whole main_arg1_scv
abbrev utV : Memref sig .scVector .hbm S100001x128 .f32 := Memref.whole main_arg2_scv
abbrev itV : Memref sig .scVector .hbm S1000001x128 .f32 := Memref.whole main_arg3_scv
abbrev xV : Memref sig .scVector .hbm S16384x256 .f32 := Memref.whole main_v0_scv
abbrev sV : Memref sig .scVector .vmem S512 .i32 := Memref.whole cc0_scratch0
abbrev rV : Memref sig .scVector .vmem S512x128 .f32 := Memref.whole cc0_scratch1

/-! ## The feature rows -/

/-- Row `r` of the features: the user table's row `user r` in columns 0–127, the item table's row `item r` in columns
    128–255. A row number is taken modulo its table's height, which changes nothing where it is in range. -/
def xVal (user item : Vec F S16384 .i32) (ut : Vec F S100001x128 .f32) (it : Vec F S1000001x128 .f32) : Vec F S16384x256 .f32 := fun j =>
  if h : (j 1).val < 128 then
    ut (ix2 (⟨(user (ix1 ⟨(j 0).val, idx2_lt0 j⟩)).toNat % 100001, Nat.mod_lt _ (by decide)⟩ : Fin 100001) (⟨(j 1).val, h⟩ : Fin 128))
  else
    it (ix2 (⟨(item (ix1 ⟨(j 0).val, idx2_lt0 j⟩)).toNat % 1000001, Nat.mod_lt _ (by decide)⟩ : Fin 1000001)
      (⟨(j 1).val - 128, by have := idx2_lt1 j; omega⟩ : Fin 128))

variable (m : (ℓ : Loc nD τ sig) → Buf (Elt F) ℓ)

/-- What the proof asks of the launch memory: every row number names a row of its table. -/
def PreOK : Prop := ∀ (d : Dev nD) (j : S16384.Idx), (m (uLoc d) j).toNat < 100001 ∧ (m (iLoc d) j).toNat < 1000001

/-- The features of the launch memory. -/
abbrev X (d : Dev nD) : Buf (Elt F) (xLoc d) := xVal (m (uLoc d)) (m (iLoc d)) (m (utLoc d)) (m (itLoc d))

/-! ## A task's rows -/

abbrev cV (L : grid0.Coords) : Fin τ.nSC := (L 0).castLE hcore0
abbrev jV (L : grid0.Coords) : Fin τ.nSub := (L 1).castLE hsub0

/-- The task's 512 row numbers, and the two halves of its 512 feature rows, as it addresses them. -/
abbrev rowK (L : grid0.Coords) : Rect S16384 := Rect.unit (s := S16384) (k0_off1 L) S512.size (k0_off1_inb L)
abbrev xlK (L : grid0.Coords) : Rect S16384x256 := Rect.unit (s := S16384x256) (k0_off2 L) S512x128.size (k0_off2_inb L)
abbrev xrK (L : grid0.Coords) : Rect S16384x256 := Rect.unit (s := S16384x256) (k0_off3 L) S512x128.size (k0_off3_inb L)

abbrev uRowK (L : grid0.Coords) : Memref sig .scVector .hbm S512 .i32 := uV.slice (rowK L) (fun _ => rfl)
abbrev iRowK (L : grid0.Coords) : Memref sig .scVector .hbm S512 .i32 := iV.slice (rowK L) (fun _ => rfl)
abbrev xlV (L : grid0.Coords) : Memref sig .scVector .hbm S512x128 .f32 := xV.slice (xlK L) (fun _ => rfl)
abbrev xrV (L : grid0.Coords) : Memref sig .scVector .hbm S512x128 .f32 := xV.slice (xrK L) (fun _ => rfl)
abbrev utAll : Memref sig .scVector .hbm S100001x128 .f32 :=
  utV.slice (Rect.unit (s := S100001x128) ![0, 0] S100001x128.size inb_S100001x128_S100001x128_0_0) (fun _ => rfl)
abbrev itAll : Memref sig .scVector .hbm S1000001x128 .f32 :=
  itV.slice (Rect.unit (s := S1000001x128) ![0, 0] S1000001x128.size inb_S1000001x128_S1000001x128_0_0) (fun _ => rfl)

theorem set_uRowK (L : grid0.Coords) : (uRowK L).view.set = (rowK L).set := by
  show ((View.whole (main_arg0_scv : Ref sig .scVector)).slice (rowK L)).set = _
  rw [View.set_slice]; exact Finset.map_refl
theorem set_iRowK (L : grid0.Coords) : (iRowK L).view.set = (rowK L).set := by
  show ((View.whole (main_arg1_scv : Ref sig .scVector)).slice (rowK L)).set = _
  rw [View.set_slice]; exact Finset.map_refl
theorem set_xlV (L : grid0.Coords) : (xlV L).view.set = (xlK L).set := by
  show ((View.whole (main_v0_scv : Ref sig .scVector)).slice (xlK L)).set = _
  rw [View.set_slice]; exact Finset.map_refl
theorem set_xrV (L : grid0.Coords) : (xrV L).view.set = (xrK L).set := by
  show ((View.whole (main_v0_scv : Ref sig .scVector)).slice (xrK L)).set = _
  rw [View.set_slice]; exact Finset.map_refl

/-- The task's number, 0 to 31: its rows are `512 * w` to `512 * w + 511`. -/
def wid (L : grid0.Coords) : Fin 32 :=
  ⟨2 * (L 1).val + (L 0).val, by have h0 : (L 0).val < 2 := (L 0).isLt; have h1 : (L 1).val < 16 := (L 1).isLt; omega⟩

theorem mem_rowK (L : grid0.Coords) (j : S16384.Idx) : j ∈ (rowK L).set ↔ 512 * (wid L).val ≤ (j 0).val ∧ (j 0).val < 512 * (wid L).val + 512 := by
  rw [Rect.mem_set_unit, Fin.forall_fin_one, k0_off1_eq]
  show (1024 * (L 1).val + 512 * (L 0).val ≤ (j 0).val ∧ (j 0).val < 1024 * (L 1).val + 512 * (L 0).val + 512) ↔ _
  simp only [wid]; omega

theorem mem_xlK (L : grid0.Coords) (j : S16384x256.Idx) :
    j ∈ (xlK L).set ↔ (512 * (wid L).val ≤ (j 0).val ∧ (j 0).val < 512 * (wid L).val + 512) ∧ (j 1).val < 128 := by
  rw [Rect.mem_set_unit, Fin.forall_fin_two, k0_off2_eq]
  show ((1024 * (L 1).val + 512 * (L 0).val ≤ (j 0).val ∧ (j 0).val < 1024 * (L 1).val + 512 * (L 0).val + 512)
    ∧ (0 ≤ (j 1).val ∧ (j 1).val < 0 + 128)) ↔ _
  simp only [wid]; omega

theorem mem_xrK (L : grid0.Coords) (j : S16384x256.Idx) :
    j ∈ (xrK L).set ↔ (512 * (wid L).val ≤ (j 0).val ∧ (j 0).val < 512 * (wid L).val + 512) ∧ 128 ≤ (j 1).val := by
  rw [Rect.mem_set_unit, Fin.forall_fin_two, k0_off3_eq]
  have : (j 1).val < 256 := (j 1).isLt
  show ((1024 * (L 1).val + 512 * (L 0).val ≤ (j 0).val ∧ (j 0).val < 1024 * (L 1).val + 512 * (L 0).val + 512)
    ∧ (128 ≤ (j 1).val ∧ (j 1).val < 128 + 128)) ↔ _
  simp only [wid]; omega

/-- The task's share of the tables: one of the 32 that five halvings cut the whole into. -/
abbrev tq (L : grid0.Coords) : PosShare TreeShare := ShareLeaves.leaf 5 fullShare (wid L)

/-! ## What a task is handed and what it hands back -/

/-- A task's operands: its row numbers, its share of both tables, the two halves of its feature rows. -/
abbrev tIn (d : Dev nD) (L : grid0.Coords) : sProp 𝕄 :=
  iprop((uLoc d ↦[(rowK L).set]{fullShare} m (uLoc d)) ∗ (iLoc d ↦[(rowK L).set]{fullShare} m (iLoc d))
    ∗ (utLoc d ↦{tq L} m (utLoc d)) ∗ (itLoc d ↦{tq L} m (itLoc d))
    ∗ (xLoc d ↦[(xlK L).set]{fullShare} m (xLoc d)) ∗ (xLoc d ↦[(xrK L).set]{fullShare} m (xLoc d)))
/-- The same after the task: its feature rows hold the gathered rows. -/
abbrev tOut (d : Dev nD) (L : grid0.Coords) : sProp 𝕄 :=
  iprop((uLoc d ↦[(rowK L).set]{fullShare} m (uLoc d)) ∗ (iLoc d ↦[(rowK L).set]{fullShare} m (iLoc d))
    ∗ (utLoc d ↦{tq L} m (utLoc d)) ∗ (itLoc d ↦{tq L} m (itLoc d))
    ∗ (xLoc d ↦[(xlK L).set]{fullShare} X m d) ∗ (xLoc d ↦[(xrK L).set]{fullShare} X m d))

/-- The pair of coordinates of a task. -/
def coordsV (c : Fin (grid0.bound 0)) (s : Fin (grid0.bound 1)) : grid0.Coords :=
  fun | 0 => c | 1 => s | ⟨_ + 2, h⟩ => absurd h (Nat.not_lt.2 (Nat.le_add_left _ _))

/-- The coordinates of task `(c, i)` of the call. -/
abbrev cs (c : Fin ((K (F := F)).nCore 0)) (i : Fin ((K (F := F)).nSub 0)) : grid0.Coords := coordsV c i

/-- What the call's handshakes carry: a SparseCore takes its sixteen tasks' operands and brings back what they leave. -/
def P : (K (F := F)).Pay (nD := nD) (Val := Elt F) (Name := ℕ) (U := UU) where
  st := fun q d c => match q with | 0 => bigSep Finset.univ fun i => tIn m d (cs (F := F) c i)
  dn := fun q d c => match q with | 0 => bigSep Finset.univ fun i => tOut m d (cs (F := F) c i)
  go := fun q d c i => match q with | 0 => tIn m d (cs (F := F) c i)
  td := fun q d c i => match q with | 0 => tOut m d (cs (F := F) c i)
  x := fun _ _ => iprop(emp)

instance P_storable : (P (F := F) m).IsStorable where
  st q d c := match q with
    | 0 => (inferInstance : BI.Storable (upEmb : UEmb _ 𝕄) (bigSep Finset.univ fun i => tIn m d (cs (F := F) c i)))
  dn q d c := match q with
    | 0 => (inferInstance : BI.Storable (upEmb : UEmb _ 𝕄) (bigSep Finset.univ fun i => tOut m d (cs (F := F) c i)))
  go q d c i := match q with
    | 0 => (inferInstance : BI.Storable (upEmb : UEmb _ 𝕄) (tIn m d (cs (F := F) c i)))
  td q d c i := match q with
    | 0 => (inferInstance : BI.Storable (upEmb : UEmb _ 𝕄) (tOut m d (cs (F := F) c i)))

/-- A SparseCore deals its operands to its tasks as they stand, and takes back what they leave. -/
theorem vecSplit : (K (F := F)).VecSplit' (P m) 0 := by
  intro d c
  show (bigSep Finset.univ fun i => tIn m d (cs (F := F) c i)) ⊢ |={Set.univ}=> iprop((bigSep Finset.univ fun i => tIn m d (cs (F := F) c i))
      ∗ ((bigSep Finset.univ fun i => tOut m d (cs (F := F) c i)) -∗ bigSep Finset.univ fun i => tOut m d (cs (F := F) c i)))
  iintro H; imodintro
  isplitl [H]; · iexact H
  iintro H; iexact H

end Cert.Proof.Run

end
-- ==== Proof.Tile.lean ====
/-
  One task of the SparseCore call: it fetches its 512 user numbers, gathers those rows of the user table, writes them to
  the left half of its feature rows, and does the same with the item numbers, the item table and the right half. The
  task ends with its feature rows at `X`'s.
-/
module

public import proofs.«01_k».proof.Proof.Setup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type}

local notation "𝕄" => MM F

variable (m : (ℓ : Loc nD τ sig) → Buf (Elt F) ℓ)
variable (d : Dev nD) (L : grid0.Coords)

/-- The vector subcore that runs the task. -/
abbrev thr (d : Dev nD) (L : grid0.Coords) : Thread nD τ := V d (cV L) (jV L)

/-! ## The task's semaphores and scratch buffers among its own -/

abbrev c0 (d : Dev nD) (L : grid0.Coords) : GSem nD τ sig := (thr d L, .dma cc0_scratch2.sem)
abbrev c1 (d : Dev nD) (L : grid0.Coords) : GSem nD τ sig := (thr d L, .dma cc0_scoped0.sem)
abbrev c2 (d : Dev nD) (L : grid0.Coords) : GSem nD τ sig := (thr d L, .dma cc0_scoped1.sem)
abbrev c3 (d : Dev nD) (L : grid0.Coords) : GSem nD τ sig := (thr d L, .dma cc0_scoped2.sem)
abbrev c4 (d : Dev nD) (L : grid0.Coords) : GSem nD τ sig := (thr d L, .dma cc0_scoped3.sem)

theorem cell_mem (s : DmaSem sig) (h : (SemLoc.dma s : SemLoc sig).isScoped .scVector = true) :
    ((thr d L, .dma s) : GSem nD τ sig) ∈ ownCells (thr d L) := mem_ownCells.mpr ⟨rfl, h⟩

theorem cell_ne (s s' : DmaSem sig) (h : s ≠ s') : ((thr d L, .dma s) : GSem nD τ sig) ≠ (thr d L, .dma s') :=
  fun e => h (SemLoc.dma.inj (Prod.mk.inj e).2)

/-- The five semaphores the task waits on are among its own: they are them, at zero, and the rest. -/
theorem ownSems0_V :
    (ownSems0 (thr d L) : sProp 𝕄)
      = iprop(semVal (c0 d L) 0 ∗ semVal (c1 d L) 0 ∗ semVal (c2 d L) 0 ∗ semVal (c3 d L) 0 ∗ semVal (c4 d L) 0
          ∗ bigSep ((((((ownCells (thr d L)).erase (c0 d L)).erase (c1 d L)).erase (c2 d L)).erase (c3 d L)).erase (c4 d L)) fun g => semVal g 0) := by
  unfold SparseCore.Cfg.ownSems0
  have h0 := cell_mem d L cc0_scratch2.sem (by decide)
  have h1 := cell_mem d L cc0_scoped0.sem (by decide)
  have h2 := cell_mem d L cc0_scoped1.sem (by decide)
  have h3 := cell_mem d L cc0_scoped2.sem (by decide)
  have h4 := cell_mem d L cc0_scoped3.sem (by decide)
  have n := cell_ne d L
  rw [SparseCore.bigSep_erase' h0,
    SparseCore.bigSep_erase' (Finset.mem_erase.mpr ⟨n _ _ (by decide), h1⟩),
    SparseCore.bigSep_erase' (Finset.mem_erase.mpr ⟨n _ _ (by decide), Finset.mem_erase.mpr ⟨n _ _ (by decide), h2⟩⟩),
    SparseCore.bigSep_erase' (Finset.mem_erase.mpr ⟨n _ _ (by decide), Finset.mem_erase.mpr ⟨n _ _ (by decide),
      Finset.mem_erase.mpr ⟨n _ _ (by decide), h3⟩⟩⟩),
    SparseCore.bigSep_erase' (Finset.mem_erase.mpr ⟨n _ _ (by decide), Finset.mem_erase.mpr ⟨n _ _ (by decide),
      Finset.mem_erase.mpr ⟨n _ _ (by decide), Finset.mem_erase.mpr ⟨n _ _ (by decide), h4⟩⟩⟩⟩)]

/-- The two scratch buffers are among the subcore's own: they are them, at some contents, and the rest. -/
theorem ownBufs_V :
    (ownBufs (thr d L) : sProp 𝕄)
      = iprop((∃ f, sV.view.loc (thr d L) ↦{fullShare} f) ∗ (∃ f, rV.view.loc (thr d L) ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The task's operands as it addresses them -/

theorem pts_u (f : Buf (Elt F) (uLoc d)) :
    (uLoc d ↦[(rowK L).set]{fullShare} f : sProp 𝕄) = ((uRowK L).view.loc (thr d L) ↦[(uRowK L).view.set]{fullShare} f) := by rw [set_uRowK]
theorem pts_i (f : Buf (Elt F) (iLoc d)) :
    (iLoc d ↦[(rowK L).set]{fullShare} f : sProp 𝕄) = ((iRowK L).view.loc (thr d L) ↦[(iRowK L).view.set]{fullShare} f) := by rw [set_iRowK]
theorem pts_xl (f : Buf (Elt F) (xLoc d)) :
    (xLoc d ↦[(xlK L).set]{fullShare} f : sProp 𝕄) = ((xlV L).view.loc (thr d L) ↦[(xlV L).view.set]{fullShare} f) := by rw [set_xlV]
theorem pts_xr (f : Buf (Elt F) (xLoc d)) :
    (xLoc d ↦[(xrK L).set]{fullShare} f : sProp 𝕄) = ((xrV L).view.loc (thr d L) ↦[(xrV L).view.set]{fullShare} f) := by rw [set_xrV]
theorem pts_ut (q : PosShare TreeShare) (f : Buf (Elt F) (utLoc d)) :
    (utLoc d ↦{q} f : sProp 𝕄) = (utAll.view.loc (thr d L) ↦{q} f) := rfl
theorem pts_it (q : PosShare TreeShare) (f : Buf (Elt F) (itLoc d)) :
    (itLoc d ↦{q} f : sProp 𝕄) = (itAll.view.loc (thr d L) ↦{q} f) := rfl

/-- What a fetch lands in the index scratch is what it read. -/
theorem read_fetch (fs : sV.view.ty.Contents (Elt F)) (pay : S512.Idx → Elt F .i32) :
    sV.view.read (Elt F) (View.write (Elt F) sV.view fs pay Finset.univ) = pay := by
  rw [View.write_whole_univ, View.read_whole]

theorem uRow_apply (y : S512.Idx) : (uRowK L).view.read (Elt F) (m (uLoc d)) y = m (uLoc d) ((rowK L).emb y) :=
  (View.read_apply _ _).trans (cast_eq _ _)
theorem iRow_apply (y : S512.Idx) : (iRowK L).view.read (Elt F) (m (iLoc d)) y = m (iLoc d) ((rowK L).emb y) :=
  (View.read_apply _ _).trans (cast_eq _ _)

/-- The fetched user numbers name rows of the user table. -/
theorem inb_u (hpre : PreOK m) (fs : sV.view.ty.Contents (Elt F)) (pay : S512.Idx → Elt F .i32)
    (hpay : pay = (uRowK L).view.read (Elt F) (m (uLoc d))) :
    ∀ x, (sV.view.read (Elt F) (View.write (Elt F) sV.view fs pay Finset.univ) x).toNat < S100001x128.size gathers_S100001x128_S512x128.axis := by
  subst hpay; intro x
  rw [read_fetch, uRow_apply]
  exact (hpre d _).1

/-- The fetched item numbers name rows of the item table. -/
theorem inb_i (hpre : PreOK m) (fs : sV.view.ty.Contents (Elt F)) (pay : S512.Idx → Elt F .i32)
    (hpay : pay = (iRowK L).view.read (Elt F) (m (iLoc d))) :
    ∀ x, (sV.view.read (Elt F) (View.write (Elt F) sV.view fs pay Finset.univ) x).toNat < S1000001x128.size gathers_S1000001x128_S512x128.axis := by
  subst hpay; intro x
  rw [read_fetch, iRow_apply]
  exact (hpre d _).2

/-! ## What the gathers deliver -/

/-- The gather from the user table: row `y 0` of what it delivers is the table's row that the list's entry `y 0` names. -/
theorem gather_ut (g : S512.Idx → Elt F .i32) (hn : S512.numel = S512x128.size gathers_S100001x128_S512x128.axis')
    (hin : ∀ x, (g x).toNat < S100001x128.size gathers_S100001x128_S512x128.axis) (f : Buf (Elt F) (utLoc d)) (y : S512x128.Idx) :
    SparseCore.gatherPayload gathers_S100001x128_S512x128 (utAll.view.read (Elt F) f) (SparseCore.rows g hn hin) y
      = f (ix2 (⟨(g (ix1 (⟨(y 0).val, idx2_lt0 y⟩ : Fin 512))).toNat, hin _⟩ : Fin 100001) (⟨(y 1).val, idx2_lt1 y⟩ : Fin 128)) := by
  unfold SparseCore.gatherPayload
  refine (View.read_apply _ _).trans ((cast_eq _ _).trans (congrArg f ?_))
  funext a
  refine Fin.ext ?_
  match a with
  | ⟨0, _⟩ =>
    show 0 + 1 * _ = (g _).toNat
    rw [Nat.zero_add, Nat.one_mul]
    refine (congrArg Fin.val (Shape.Gathers.idx_axis gathers_S100001x128_S512x128 (SparseCore.rows g hn hin) y)).trans ?_
    show (g _).toNat = (g _).toNat
    refine congrArg (fun z => (g z).toNat) ((S512.rowMajor.symm_apply_eq).2 (Fin.ext ?_))
    rw [Shape.rowMajor_val_one]; rfl
  | ⟨1, _⟩ =>
    show 0 + 1 * _ = (y 1).val
    rw [Nat.zero_add, Nat.one_mul]
    exact Shape.Gathers.idx_of_ne gathers_S100001x128_S512x128 (SparseCore.rows g hn hin) y 1 (by decide)

/-- The gather from the item table, likewise. -/
theorem gather_it (g : S512.Idx → Elt F .i32) (hn : S512.numel = S512x128.size gathers_S1000001x128_S512x128.axis')
    (hin : ∀ x, (g x).toNat < S1000001x128.size gathers_S1000001x128_S512x128.axis) (f : Buf (Elt F) (itLoc d)) (y : S512x128.Idx) :
    SparseCore.gatherPayload gathers_S1000001x128_S512x128 (itAll.view.read (Elt F) f) (SparseCore.rows g hn hin) y
      = f (ix2 (⟨(g (ix1 (⟨(y 0).val, idx2_lt0 y⟩ : Fin 512))).toNat, hin _⟩ : Fin 1000001) (⟨(y 1).val, idx2_lt1 y⟩ : Fin 128)) := by
  unfold SparseCore.gatherPayload
  refine (View.read_apply _ _).trans ((cast_eq _ _).trans (congrArg f ?_))
  funext a
  refine Fin.ext ?_
  match a with
  | ⟨0, _⟩ =>
    show 0 + 1 * _ = (g _).toNat
    rw [Nat.zero_add, Nat.one_mul]
    refine (congrArg Fin.val (Shape.Gathers.idx_axis gathers_S1000001x128_S512x128 (SparseCore.rows g hn hin) y)).trans ?_
    show (g _).toNat = (g _).toNat
    refine congrArg (fun z => (g z).toNat) ((S512.rowMajor.symm_apply_eq).2 (Fin.ext ?_))
    rw [Shape.rowMajor_val_one]; rfl
  | ⟨1, _⟩ =>
    show 0 + 1 * _ = (y 1).val
    rw [Nat.zero_add, Nat.one_mul]
    exact Shape.Gathers.idx_of_ne gathers_S1000001x128_S512x128 (SparseCore.rows g hn hin) y 1 (by decide)

/-- The row scratch read back after a gather landed in it, over whatever stood there. -/
theorem read_rows (fr : rV.view.ty.Contents (Elt F)) (w : S512x128.Idx → Elt F .f32) (l : List (View.Piece (Elt F) S512x128 .f32)) :
    rV.view.read (Elt F) (rV.view.writes (Elt F) fr (⟨Rect.whole S512x128, w⟩ :: l)) = w := by
  funext y
  have := View.read_writes_cons_emb rV.view fr (Rect.whole S512x128) w l y
  rwa [Rect.emb_whole_apply] at this

/-- Element `(r, k)` of the user rows a task writes is `X`'s at the place it is written to. -/
theorem pay_l (hpre : PreOK m) (g : S512.Idx → Elt F .i32) (hg : g = (uRowK L).view.read (Elt F) (m (uLoc d))) (hn : S512.numel = S512x128.size gathers_S100001x128_S512x128.axis')
    (hin : ∀ x, (g x).toNat < S100001x128.size gathers_S100001x128_S512x128.axis) (y : S512x128.Idx) :
    SparseCore.gatherPayload gathers_S100001x128_S512x128 (utAll.view.read (Elt F) (m (utLoc d)))
      (SparseCore.rows g hn hin) y = X m d ((xlK L).emb y) := by
  subst hg
  rw [gather_ut d]
  have h1 : ((xlK L).emb y 1).val = (y 1).val := by
    show (k0_off2 L) 1 + 1 * (y 1).val = _
    rw [k0_off2_eq]; simp
  have h0 : ((xlK L).emb y 0).val = 1024 * (L 1).val + 512 * (L 0).val + (y 0).val := by
    show (k0_off2 L) 0 + 1 * (y 0).val = _
    rw [k0_off2_eq]; simp
  have hy := idx2_lt1 y
  unfold X xVal
  rw [dif_pos (show ((xlK L).emb y 1).val < 128 by omega)]
  have e : (rowK L).emb (ix1 (⟨(y 0).val, idx2_lt0 y⟩ : Fin 512)) = ix1 (⟨((xlK L).emb y 0).val, idx2_lt0 _⟩ : Fin 16384) := by
    funext a; match a with
    | ⟨0, _⟩ =>
      refine Fin.ext ?_
      show (k0_off1 L) 0 + 1 * (y 0).val = ((xlK L).emb y 0).val
      rw [h0, k0_off1_eq]; simp
  refine congrArg (m (utLoc d)) ?_
  congr 1 <;> refine Fin.ext ?_
  · show ((uRowK L).view.read (Elt F) (m (uLoc d)) _).toNat = (m (uLoc d) _).toNat % 100001
    rw [uRow_apply, e, Nat.mod_eq_of_lt (hpre d _).1]
  · exact h1.symm

/-- Element `(r, k)` of the item rows a task writes is `X`'s at the place it is written to. -/
theorem pay_r (hpre : PreOK m) (g : S512.Idx → Elt F .i32) (hg : g = (iRowK L).view.read (Elt F) (m (iLoc d))) (hn : S512.numel = S512x128.size gathers_S1000001x128_S512x128.axis')
    (hin : ∀ x, (g x).toNat < S1000001x128.size gathers_S1000001x128_S512x128.axis) (y : S512x128.Idx) :
    SparseCore.gatherPayload gathers_S1000001x128_S512x128 (itAll.view.read (Elt F) (m (itLoc d)))
      (SparseCore.rows g hn hin) y = X m d ((xrK L).emb y) := by
  subst hg
  rw [gather_it d]
  have h1 : ((xrK L).emb y 1).val = 128 + (y 1).val := by
    show (k0_off3 L) 1 + 1 * (y 1).val = _
    rw [k0_off3_eq]; simp
  have h0 : ((xrK L).emb y 0).val = 1024 * (L 1).val + 512 * (L 0).val + (y 0).val := by
    show (k0_off3 L) 0 + 1 * (y 0).val = _
    rw [k0_off3_eq]; simp
  have hy := idx2_lt1 y
  unfold X xVal
  rw [dif_neg (show ¬((xrK L).emb y 1).val < 128 by omega)]
  have e : (rowK L).emb (ix1 (⟨(y 0).val, idx2_lt0 y⟩ : Fin 512)) = ix1 (⟨((xrK L).emb y 0).val, idx2_lt0 _⟩ : Fin 16384) := by
    funext a; match a with
    | ⟨0, _⟩ =>
      refine Fin.ext ?_
      show (k0_off1 L) 0 + 1 * (y 0).val = ((xrK L).emb y 0).val
      rw [h0, k0_off1_eq]; simp
  refine congrArg (m (itLoc d)) ?_
  congr 1 <;> refine Fin.ext ?_
  · show ((iRowK L).view.read (Elt F) (m (iLoc d)) _).toNat = (m (iLoc d) _).toNat % 1000001
    rw [iRow_apply, e, Nat.mod_eq_of_lt (hpre d _).2]
  · show (y 1).val = ((xrK L).emb y 1).val - 128
    omega

/-- The left half of the task's feature rows, written with `X`'s elements, holds `X`. -/
theorem half_l (f : Buf (Elt F) (xLoc d)) (pay : S512x128.Idx → Elt F .f32) (hpay : ∀ y, pay y = X m d ((xlK L).emb y)) :
    ((xlV L).view.loc (thr d L) ↦[(xlV L).view.set]{fullShare} (xlV L).view.writes (Elt F) f [⟨Rect.whole S512x128, pay⟩] : sProp 𝕄)
      = xLoc d ↦[(xlK L).set]{fullShare} X m d := by
  rw [pts_xl]
  refine pointsTo_congr fun j hj => ?_
  obtain ⟨y, -, rfl⟩ := Finset.mem_map.mp hj
  have h := View.read_writes_cons_emb (xlV L).view f (Rect.whole S512x128) pay [] y
  rw [Rect.emb_whole_apply, View.read_apply, cast_eq] at h
  exact h.trans (hpay y)

/-- The right half, likewise. -/
theorem half_r (f : Buf (Elt F) (xLoc d)) (pay : S512x128.Idx → Elt F .f32) (hpay : ∀ y, pay y = X m d ((xrK L).emb y)) :
    ((xrV L).view.loc (thr d L) ↦[(xrV L).view.set]{fullShare} (xrV L).view.writes (Elt F) f [⟨Rect.whole S512x128, pay⟩] : sProp 𝕄)
      = xLoc d ↦[(xrK L).set]{fullShare} X m d := by
  rw [pts_xr]
  refine pointsTo_congr fun j hj => ?_
  obtain ⟨y, -, rfl⟩ := Finset.mem_map.mp hj
  have h := View.read_writes_cons_emb (xrV L).view f (Rect.whole S512x128) pay [] y
  rw [Rect.emb_whole_apply, View.read_apply, cast_eq] at h
  exact h.trans (hpay y)

variable [FloatOps F]

/-! ## The task -/

set_option maxHeartbeats 4000000 in
/-- The task on vector subcore `(L 0, L 1)` of device `d`, from its operands, its scratch buffers and its semaphores at
    zero: it ends with its feature rows holding `X`, everything else as it was, and every wait it recorded one of a
    transfer of its own. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tIn m d L
        ∗ scopedBufs (thr d L) ∗ scopedSems0 (thr d L) ∗ owes (thr d L) O W)
      ⊢ wp frame (wpE (defs₀ (F := F)) 𝒱₀ (thr d L) none) Set.univ
          (cc0_body L uV (Memref.isWhole_whole _) iV (Memref.isWhole_whole _) utV (Memref.isWhole_whole _) itV (Memref.isWhole_whole _)
            xV (Memref.isWhole_whole _) sV (Memref.isWhole_whole _) rV (Memref.isWhole_whole _) cc0_scratch2 cc0_scoped0 cc0_scoped1 cc0_scoped2 cc0_scoped3)
          fun _ => iprop(tOut m d L ∗ scopedBufs (thr d L) ∗ scopedSems0 (thr d L)
            ∗ ∃ W', ⌜∀ p ∈ W', p ∈ W ∨ p.2 = none⌝ ∗ owes (thr d L) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  iintro ⟨#Hlv, -, ⟨Hu, Hi, Hut, Hit, Hxl, Hxr⟩, ⟨⟨%fs, Hs⟩, ⟨%fr, Hr⟩, Hbufs⟩, ⟨H0, H1, H2, H3, H4, Hsems⟩, HO⟩
  ihave Hmw := (show levAts (K (F := F)).L (K (F := F)).lev ⊢ Transfers.MayWaits (thr d L) (default : HIx 1) O from
    (K (F := F)).mayWaits_none (thr := thr d L) hO) $$ Hlv
  ihave Hu := (Entails.of_eq (pts_u (F := F) d L _)) $$ Hu
  ihave Hi := (Entails.of_eq (pts_i (F := F) d L _)) $$ Hi
  ihave Hxl := (Entails.of_eq (pts_xl (F := F) d L _)) $$ Hxl
  ihave Hxr := (Entails.of_eq (pts_xr (F := F) d L _)) $$ Hxr
  ihave Hut := (Entails.of_eq (pts_ut (F := F) d L _ _)) $$ Hut
  ihave Hit := (Entails.of_eq (pts_it (F := F) d L _ _)) $$ Hit
  sl_exec
  have hin : ∀ x, (sV.view.read (Elt F) (View.write (Elt F) sV.view fs (tile_body.sl.dma0 m d L) Finset.univ) x).toNat
      < S100001x128.size gathers_S100001x128_S512x128.axis := inb_u m d L hpre fs _ rfl
  sl_exec
  have hin' : ∀ x, (sV.view.read (Elt F) (View.write (Elt F) sV.view (View.write (Elt F) sV.view fs (tile_body.sl.dma0 m d L) Finset.univ)
      (tile_body.sl.dma0_2 m d L) Finset.univ) x).toNat
      < S1000001x128.size gathers_S1000001x128_S512x128.axis := inb_i m d L hpre _ _ rfl
  sl_exec
  sl_step
  have hl : ∀ y, tile_body.sl.dma0_1 m d L fs fr hin y = X m d ((xlK L).emb y) := fun y => by
    refine (congrFun (read_rows fr (tile_body.sl.gather0 m d L fs hin) []) y).trans ?_
    exact pay_l m d L hpre _ (read_fetch fs _) rfl hin y
  have hr : ∀ y, tile_body.sl.dma0_3 m d L fs fr hin hin' y = X m d ((xrK L).emb y) := fun y => by
    refine (congrFun (read_rows fr (tile_body.sl.gather0_1 m d L fs hin') _) y).trans ?_
    exact pay_r m d L hpre _ (read_fetch _ _) rfl hin' y
  isplitl [Hu Hi Hut Hit Hxl Hxr]
  · isplitl [Hu]; · iapply (Entails.of_eq (pts_u (F := F) d L _).symm); iexact Hu
    isplitl [Hi]; · iapply (Entails.of_eq (pts_i (F := F) d L _).symm); iexact Hi
    isplitl [Hut]; · iexact Hut
    isplitl [Hit]; · iexact Hit
    isplitl [Hxl]; · iapply (Entails.of_eq (half_l m d L (m (xLoc d)) _ hl)); iexact Hxl
    iapply (Entails.of_eq (half_r m d L (m (xLoc d)) _ hr)); iexact Hxr
  isplitl [Hs Hr Hbufs]
  · isplitl [Hs]; · iexists _; iexact Hs
    isplitl [Hr]; · iexists _; iexact Hr
    iexact Hbufs
  isplitl [H0 H1 H2 H3 H4 Hsems]
  · isplitl [H0]; · iexact H0
    isplitl [H1]; · iexact H1
    isplitl [H2]; · iexact H2
    isplitl [H3]; · iexact H3
    isplitl [H4]; · iexact H4
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

theorem defs₀_vector (c : Fin τ.nSC) (s : Fin τ.nSub) :
    defs₀ (F := F) (.scVector c s) 0 ()
      = SparseCore.onTile hcore0 hsub0 (fun c s => cc0_body (coordsV c s)
          uV (Memref.isWhole_whole _) iV (Memref.isWhole_whole _) utV (Memref.isWhole_whole _) itV (Memref.isWhole_whole _)
          xV (Memref.isWhole_whole _) sV (Memref.isWhole_whole _) rV (Memref.isWhole_whole _) cc0_scratch2 cc0_scoped0 cc0_scoped1 cc0_scoped2 cc0_scoped3) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call meets its obligation. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Cert.Proof.Run

end
-- ==== Proof.Split.lean ====
/-
  The call's whole operands are its 32 tasks' pieces: the row numbers and the feature rows cut by rows, the feature rows
  also by halves, the two tables dealt in shares.
-/
module

public import proofs.«01_k».proof.Proof.Setup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type}

local notation "𝕄" => MM F

variable (m : (ℓ : Loc nD τ sig) → Buf (Elt F) ℓ) (d : Dev nD)

/-! ## The tasks by number -/

/-- Task `w`'s coordinates. -/
def cw (w : Fin 32) : grid0.Coords :=
  coordsV (⟨w.val % 2, Nat.mod_lt _ (by decide)⟩ : Fin 2) (⟨w.val / 2, by have := w.isLt; omega⟩ : Fin 16)

theorem wid_cw (w : Fin 32) : wid (cw w) = w := by
  refine Fin.ext ?_
  show 2 * (w.val / 2) + w.val % 2 = w.val
  omega

/-- A SparseCore and a subcore of it, as a task's number. -/
def pairEquiv : Fin 2 × Fin 16 ≃ Fin 32 where
  toFun p := ⟨2 * p.2.val + p.1.val, by have := p.1.isLt; have := p.2.isLt; omega⟩
  invFun w := (⟨w.val % 2, Nat.mod_lt _ (by decide)⟩, ⟨w.val / 2, by have := w.isLt; omega⟩)
  left_inv p := by
    have h1 := p.1.isLt
    refine Prod.ext (Fin.ext ?_) (Fin.ext ?_)
    · show (2 * p.2.val + p.1.val) % 2 = p.1.val; omega
    · show (2 * p.2.val + p.1.val) / 2 = p.2.val; omega
  right_inv w := Fin.ext (by show 2 * (w.val / 2) + w.val % 2 = w.val; omega)

theorem cw_pair (p : Fin 2 × Fin 16) : cw (pairEquiv p) = coordsV p.1 p.2 := by
  have h : pairEquiv.symm (pairEquiv p) = p := pairEquiv.symm_apply_apply p
  show coordsV (pairEquiv.symm (pairEquiv p)).1 (pairEquiv.symm (pairEquiv p)).2 = _
  rw [h]

/-- Something for every task of every SparseCore is something for each of the 32 numbers. -/
theorem bigSep_tasks (Φ : grid0.Coords → sProp 𝕄) :
    (bigSep Finset.univ fun c : Fin ((K (F := F)).nCore 0) => bigSep Finset.univ fun i : Fin ((K (F := F)).nSub 0) => Φ (cs (F := F) c i))
      = bigSep Finset.univ fun w : Fin 32 => Φ (cw w) := by
  show (bigSep Finset.univ fun c : Fin 2 => bigSep Finset.univ fun i : Fin 16 => Φ (coordsV c i)) = _
  rw [bigSep_univ_equiv pairEquiv, bigSep_univ_prod]
  exact bigSep_congr fun c _ => bigSep_congr fun i _ => by rw [cw_pair (c, i)]

/-! ## The pieces -/

theorem rows_disjoint : ∀ t ∈ (Finset.univ : Finset (Fin 32)), ∀ t' ∈ (Finset.univ : Finset (Fin 32)), t ≠ t' →
    Disjoint (rowK (cw t)).set (rowK (cw t')).set := by
  intro t _ t' _ h
  refine Finset.disjoint_left.mpr fun j hj hj' => h (Fin.ext ?_)
  rw [mem_rowK, wid_cw] at hj hj'; omega

theorem rows_cover : (Finset.univ : Finset (Fin 32)).biUnion (fun t => (rowK (cw t)).set) = Finset.univ := by
  refine Finset.eq_univ_iff_forall.mpr fun j => Finset.mem_biUnion.mpr ?_
  have h : (j 0).val < 16384 := (j 0).isLt
  refine ⟨⟨(j 0).val / 512, by omega⟩, Finset.mem_univ _, (mem_rowK _ _).mpr ?_⟩
  rw [wid_cw]; dsimp only; omega

/-- The elements of the features' left half. -/
def lefts : Finset S16384x256.Idx := Finset.univ.filter fun j => (j 1).val < 128

theorem xl_disjoint : ∀ t ∈ (Finset.univ : Finset (Fin 32)), ∀ t' ∈ (Finset.univ : Finset (Fin 32)), t ≠ t' →
    Disjoint (xlK (cw t)).set (xlK (cw t')).set := by
  intro t _ t' _ h
  refine Finset.disjoint_left.mpr fun j hj hj' => h (Fin.ext ?_)
  rw [mem_xlK, wid_cw] at hj hj'; omega
theorem xr_disjoint : ∀ t ∈ (Finset.univ : Finset (Fin 32)), ∀ t' ∈ (Finset.univ : Finset (Fin 32)), t ≠ t' →
    Disjoint (xrK (cw t)).set (xrK (cw t')).set := by
  intro t _ t' _ h
  refine Finset.disjoint_left.mpr fun j hj hj' => h (Fin.ext ?_)
  rw [mem_xrK, wid_cw] at hj hj'; omega

theorem xl_cover : (Finset.univ : Finset (Fin 32)).biUnion (fun t => (xlK (cw t)).set) = lefts := by
  refine Finset.ext fun j => ?_
  simp only [Finset.mem_biUnion, Finset.mem_univ, true_and, mem_xlK, wid_cw, lefts, Finset.mem_filter]
  have h : (j 0).val < 16384 := (j 0).isLt
  refine ⟨fun ⟨_, _, h⟩ => h, fun h1 => ⟨⟨(j 0).val / 512, by omega⟩, ?_, h1⟩⟩
  dsimp only; omega
theorem xr_cover : (Finset.univ : Finset (Fin 32)).biUnion (fun t => (xrK (cw t)).set) = Finset.univ \ lefts := by
  refine Finset.ext fun j => ?_
  simp only [Finset.mem_biUnion, Finset.mem_univ, true_and, mem_xrK, wid_cw, lefts, Finset.mem_filter, Finset.mem_sdiff, not_lt]
  have h : (j 0).val < 16384 := (j 0).isLt
  refine ⟨fun ⟨_, _, h⟩ => h, fun h1 => ⟨⟨(j 0).val / 512, by omega⟩, ?_, h1⟩⟩
  dsimp only; omega

theorem u_pieces (f : Buf (Elt F) (uLoc d)) :
    (uLoc d ↦{fullShare} f : sProp 𝕄) = bigSep Finset.univ fun w : Fin 32 => uLoc d ↦[(rowK (cw w)).set]{fullShare} f := by
  rw [← pointsTo_biUnion Finset.univ (ℓ := uLoc d) (fun w : Fin 32 => (rowK (cw w)).set) rows_disjoint, rows_cover]
theorem i_pieces (f : Buf (Elt F) (iLoc d)) :
    (iLoc d ↦{fullShare} f : sProp 𝕄) = bigSep Finset.univ fun w : Fin 32 => iLoc d ↦[(rowK (cw w)).set]{fullShare} f := by
  rw [← pointsTo_biUnion Finset.univ (ℓ := iLoc d) (fun w : Fin 32 => (rowK (cw w)).set) rows_disjoint, rows_cover]
theorem x_pieces (f : Buf (Elt F) (xLoc d)) :
    (xLoc d ↦{fullShare} f : sProp 𝕄)
      = iprop((bigSep Finset.univ fun w : Fin 32 => xLoc d ↦[(xlK (cw w)).set]{fullShare} f)
          ∗ bigSep Finset.univ fun w : Fin 32 => xLoc d ↦[(xrK (cw w)).set]{fullShare} f) := by
  have e := pointsTo_split_subset (nD := nD) (sig := sig) (Ix := HIx 1) (Val := Elt F) (Name := ℕ) (U := UU) (Lvl := ℕ)
    (ℓ := xLoc d) (q := fullShare) (f := f) (Finset.subset_univ lefts)
  rw [BI.Entails.antisymm e.1 e.2, ← pointsTo_biUnion Finset.univ (ℓ := xLoc d) (fun w : Fin 32 => (xlK (cw w)).set) xl_disjoint, xl_cover,
    ← pointsTo_biUnion Finset.univ (ℓ := xLoc d) (fun w : Fin 32 => (xrK (cw w)).set) xr_disjoint, xr_cover]
theorem t_shares {ℓ : Loc nD τ sig} (f : Buf (Elt F) ℓ) :
    (ℓ ↦{fullShare} f : sProp 𝕄) = bigSep Finset.univ fun w : Fin 32 => ℓ ↦{tq (cw w)} f := by
  rw [ShareLeaves.pointsTo_leaves Finset.univ f 5 fullShare]
  exact bigSep_congr fun w _ => by rw [tq, wid_cw]

/-! ## The whole operands -/

/-- The call's operands whole, the features at `f`. -/
abbrev whole5 (f : Buf (Elt F) (xLoc d)) : sProp 𝕄 :=
  iprop((uLoc d ↦{fullShare} m (uLoc d)) ∗ (iLoc d ↦{fullShare} m (iLoc d)) ∗ (utLoc d ↦{fullShare} m (utLoc d))
    ∗ (itLoc d ↦{fullShare} m (itLoc d)) ∗ xLoc d ↦{fullShare} f)

theorem pieces5 (f : Buf (Elt F) (xLoc d)) :
    (bigSep Finset.univ fun w : Fin 32 => iprop((uLoc d ↦[(rowK (cw w)).set]{fullShare} m (uLoc d)) ∗ (iLoc d ↦[(rowK (cw w)).set]{fullShare} m (iLoc d))
      ∗ (utLoc d ↦{tq (cw w)} m (utLoc d)) ∗ (itLoc d ↦{tq (cw w)} m (itLoc d))
      ∗ (xLoc d ↦[(xlK (cw w)).set]{fullShare} f) ∗ (xLoc d ↦[(xrK (cw w)).set]{fullShare} f))) = (whole5 m d f : sProp 𝕄) := by
  rw [bigSep_sep', bigSep_sep', bigSep_sep', bigSep_sep', bigSep_sep']
  unfold whole5
  rw [u_pieces, i_pieces, t_shares (ℓ := utLoc d), t_shares (ℓ := itLoc d), x_pieces]

/-- The call takes its operands whole … -/
theorem st_eq : (bigSep Finset.univ fun c : Fin ((K (F := F)).nCore 0) => (P m).st 0 d c) = (whole5 m d (m (xLoc d)) : sProp 𝕄) :=
  (bigSep_tasks (F := F) fun L => tIn m d L).trans (pieces5 m d _)

/-- … and brings them back whole, the features at `X`. -/
theorem dn_eq : (bigSep Finset.univ fun c : Fin ((K (F := F)).nCore 0) => (P m).dn 0 d c) = (whole5 m d (X m d) : sProp 𝕄) :=
  (bigSep_tasks (F := F) fun L => tOut m d L).trans (pieces5 m d _)

end Cert.Proof.Run

end
-- ==== Proof.Mlp.lean ====
/-
  The TensorCore's kernel: the three dense layers and the final dot product on one block of 4096 rows, with the
  value it stores, and the pipelined region around it with the array it leaves.
-/
module

public import proofs.«01_k».proof.Proof.Setup
public import Idealize.ShloMosaic.Lib.Pipeline.RegionsLoop

@[expose] public section

noncomputable section

namespace Cert.Proof.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic Idealize.ShloMosaic.ValueIdx

variable {F : FTy → Type} [FloatOps F]

local notation "𝕄" => MM F

/-! ## The body -/

/-- What the kernel stores for a block of rows, over the block and the weights. -/
abbrev blockOut (x : Vec F S4096x256 .f32) (w1 : Vec F S256x1024 .f32) (b1 : Vec F S1024 .f32) (w2 : Vec F S1024x512 .f32)
    (b2 : Vec F S512 .f32) (w3 : Vec F S512x256 .f32) (b3 : Vec F S256 .f32) (wd : Vec F S256 .f32) (bd : Vec F S1 .f32) : FVec F S4096x1 .f32 :=
  k1_pay1 (k1_pay2 x w1 b1 w2 b2 w3 b3 wd) bd

theorem z1 : (![0] : Fin 1 → Nat) = fun _ => 0 := funext fun a => by fin_cases a; rfl
theorem z2 : (![0, 0] : Fin 2 → Nat) = fun _ => 0 := funext fun a => by fin_cases a <;> rfl

/-- A buffer held whole through its memref. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

set_option maxRecDepth 65536 in
/-- From the ten staging buffers held whole the kernel runs to its return, the nine it reads as they were, the tenth
    holding `blockOut` of what they read. -/
theorem mlp_body (c : Dev nD) (i : grid1.Coords)
    (M1 : Memref sig .tc .vmem S4096x256 .f32) (h1 : M1.IsWhole) (M2 : Memref sig .tc .vmem S256x1024 .f32) (h2 : M2.IsWhole)
    (M3 : Memref sig .tc .vmem S1024 .f32) (h3 : M3.IsWhole) (M4 : Memref sig .tc .vmem S1024x512 .f32) (h4 : M4.IsWhole)
    (M5 : Memref sig .tc .vmem S512 .f32) (h5 : M5.IsWhole) (M6 : Memref sig .tc .vmem S512x256 .f32) (h6 : M6.IsWhole)
    (M7 : Memref sig .tc .vmem S256 .f32) (h7 : M7.IsWhole) (M8 : Memref sig .tc .vmem S256 .f32) (h8 : M8.IsWhole)
    (M9 : Memref sig .tc .vmem S1 .f32) (h9 : M9.IsWhole) (M10 : Memref sig .tc .vmem S4096x1 .f32) (h10 : M10.IsWhole)
    (f1 : Buf (Elt F) (M1.view.loc (c : Thread nD τ))) (f2 : Buf (Elt F) (M2.view.loc (c : Thread nD τ))) (f3 : Buf (Elt F) (M3.view.loc (c : Thread nD τ))) (f4 : Buf (Elt F) (M4.view.loc (c : Thread nD τ)))
    (f5 : Buf (Elt F) (M5.view.loc (c : Thread nD τ))) (f6 : Buf (Elt F) (M6.view.loc (c : Thread nD τ))) (f7 : Buf (Elt F) (M7.view.loc (c : Thread nD τ))) (f8 : Buf (Elt F) (M8.view.loc (c : Thread nD τ)))
    (f9 : Buf (Elt F) (M9.view.loc (c : Thread nD τ))) (f10 : Buf (Elt F) (M10.view.loc (c : Thread nD τ))) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10
        ∗ (iprop(pt c M1 f1 ∗ pt c M2 f2 ∗ pt c M3 f3 ∗ pt c M4 f4 ∗ pt c M5 f5 ∗ pt c M6 f6 ∗ pt c M7 f7 ∗ pt c M8 f8 ∗ pt c M9 f9
            ∗ ∃ W : Buf (Elt F) (M10.view.loc (c : Thread nD τ)),
                ⌜M10.view.read (Elt F) W = blockOut (M1.view.read (Elt F) f1) (M2.view.read (Elt F) f2) (M3.view.read (Elt F) f3) (M4.view.read (Elt F) f4)
                    (M5.view.read (Elt F) f5) (M6.view.read (Elt F) f6) (M7.view.read (Elt F) f7) (M8.view.read (Elt F) f8) (M9.view.read (Elt F) f9)⌝
                  ∗ pt c M10 W) -∗ Q ⟨⟩))
      ⊢ wp frame (wpE (defs₀ (F := F)) Variants.none (c : Thread nD τ) none) E
          (cc1__mlp_body (F := F) i M1 h1 M2 h2 M3 h3 M4 h4 M5 h5 M6 h6 M7 h7 M8 h8 M9 h9 M10 h10) Q := by
  rw [cc1__mlp_body_eq_skeleton]
  unfold cc1__mlp_body_skel
  rw [k1_part1_eq_skeleton]
  unfold k1_part1_skel
  iintro ⟨H1, H2, H3, H4, H5, H6, H7, H8, H9, H10, Hk⟩
  sl_exec!
  sl_step
  iapply Hk
  iframe H1 H2 H3 H4 H5 H6 H7 H8 H9
  iexists _
  isplitr; swap; (· iexact H10)
  ipureintro
  rw [View.read_writes_junk_eq_canon]
  unfold mlp_body.sl.H10_1
  rw [View.canon_unit_zero z2]
  simp only [View.readAt_eq_ld]
  have e1 : View.ld (M1.view.read (Elt F) f1) (Rect.unit ![0, 0] ![4096, 256] inb_S4096x256_S4096x256_0_0) = M1.view.read (Elt F) f1 :=
    View.ld_unit_zero (S := S4096x256) z2 _ _
  have e2 : View.ld (M2.view.read (Elt F) f2) (Rect.unit ![0, 0] ![256, 1024] inb_S256x1024_S256x1024_0_0) = M2.view.read (Elt F) f2 :=
    View.ld_unit_zero (S := S256x1024) z2 _ _
  have e3 : View.ld (M3.view.read (Elt F) f3) (Rect.unit ![0] ![1024] inb_S1024_S1024_0) = M3.view.read (Elt F) f3 :=
    View.ld_unit_zero (S := S1024) z1 _ _
  have e4 : View.ld (M4.view.read (Elt F) f4) (Rect.unit ![0, 0] ![1024, 512] inb_S1024x512_S1024x512_0_0) = M4.view.read (Elt F) f4 :=
    View.ld_unit_zero (S := S1024x512) z2 _ _
  have e5 : View.ld (M5.view.read (Elt F) f5) (Rect.unit ![0] ![512] inb_S512_S512_0) = M5.view.read (Elt F) f5 :=
    View.ld_unit_zero (S := S512) z1 _ _
  have e6 : View.ld (M6.view.read (Elt F) f6) (Rect.unit ![0, 0] ![512, 256] inb_S512x256_S512x256_0_0) = M6.view.read (Elt F) f6 :=
    View.ld_unit_zero (S := S512x256) z2 _ _
  have e7 : View.ld (M7.view.read (Elt F) f7) (Rect.unit ![0] ![256] inb_S256_S256_0) = M7.view.read (Elt F) f7 :=
    View.ld_unit_zero (S := S256) z1 _ _
  have e8 : View.ld (M8.view.read (Elt F) f8) (Rect.unit ![0] ![256] inb_S256_S256_0) = M8.view.read (Elt F) f8 :=
    View.ld_unit_zero (S := S256) z1 _ _
  have e9 : View.ld (M9.view.read (Elt F) f9) (Rect.unit ![0] ![1] inb_S1_S1_0) = M9.view.read (Elt F) f9 :=
    View.ld_unit_zero (S := S1) z1 _ _
  rw [e1, e2, e3, e4, e5, e6, e7, e8, e9]

/-! ## The region -/

variable (V : (c : Dev nD) → (b : Ref sig .tc) → Buf (Elt F) ((c : Thread nD τ).loc b))

/-- Block `t` of the features: rows `4096 t … 4096 t + 4095`. -/
def xBlk (x : Vec F S16384x256 .f32) (t : Fin 4) : Vec F S4096x256 .f32 := fun j =>
  x (ix2 ⟨4096 * t.val + (j 0).val, by have h : (j 0).val < 4096 := (j 0).isLt; have := t.isLt; omega⟩ (j 1))

/-- The column the region leaves: row `r` is row `r % 4096` of what the kernel stores for block `r / 4096`. -/
def mlpAll (x : Vec F S16384x256 .f32) (w1 : Vec F S256x1024 .f32) (b1 : Vec F S1024 .f32) (w2 : Vec F S1024x512 .f32)
    (b2 : Vec F S512 .f32) (w3 : Vec F S512x256 .f32) (b3 : Vec F S256 .f32) (wd : Vec F S256 .f32) (bd : Vec F S1 .f32) : Vec F S16384x1 .f32 := fun i =>
  blockOut (xBlk x ⟨(i 0).val / 4096, by have h : (i 0).val < 16384 := (i 0).isLt; omega⟩) w1 b1 w2 b2 w3 b3 wd bd
    (ix2 ⟨(i 0).val % 4096, Nat.mod_lt _ (by decide)⟩ (i 1))

/-- A window's block of its array at point `t`. -/
abbrev iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body stores at point `t`. -/
abbrev outAt (c : Dev nD) (t : Fin cfg1.N) : Vec F S4096x1 .f32 :=
  blockOut (iblk V c 0 t) (iblk V c 1 t) (iblk V c 2 t) (iblk V c 3 t) (iblk V c 4 t) (iblk V c 5 t) (iblk V c 6 t) (iblk V c 7 t) (iblk V c 8 t)

/-- The buffers no window stages, at anything. -/
abbrev Φc (c : Dev nD) : sProp 𝕄 := Pipeline.scopedRest (Ix := HIx 1) (Name := ℕ) (U := UU) (Lvl := ℕ) (Val := Elt F) spec1 c

/-- The region's proof data from the buffers at `V`: every operand's staging buffer at its block, the result's at what
    the body stores, nothing owed, every wait recorded at or below level `b`. -/
def dat (b : ℕ) (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => outAt V c t
  Φ _ := Φc c
  q _ := fullShare
  owed _ := 0
  recorded _ := {p | (K (F := F)).lev ((c : Thread nD τ), p.1) p.2 ≤ b}

variable (b : ℕ)

theorem before_0 (c : Dev nD) (t : Fin cfg1.N) (d : (cfg1.win 0).block.Idx → Elt F (cfg1.win 0).elt) : (dat V b c).before 0 t d = iblk V c 0 t :=
  ((dat V b c).before_in_eq_fetched 0 rfl (fun _ => rfl) (fun _ _ _ => rfl) (fun _ => rfl) t d).trans rfl
theorem before_1 (c : Dev nD) (t : Fin cfg1.N) (d : (cfg1.win 1).block.Idx → Elt F (cfg1.win 1).elt) : (dat V b c).before 1 t d = iblk V c 1 t :=
  ((dat V b c).before_in_eq_fetched 1 rfl (fun _ => rfl) (fun _ _ _ => rfl) (fun _ => rfl) t d).trans rfl
theorem before_2 (c : Dev nD) (t : Fin cfg1.N) (d : (cfg1.win 2).block.Idx → Elt F (cfg1.win 2).elt) : (dat V b c).before 2 t d = iblk V c 2 t :=
  ((dat V b c).before_in_eq_fetched 2 rfl (fun _ => rfl) (fun _ _ _ => rfl) (fun _ => rfl) t d).trans rfl
theorem before_3 (c : Dev nD) (t : Fin cfg1.N) (d : (cfg1.win 3).block.Idx → Elt F (cfg1.win 3).elt) : (dat V b c).before 3 t d = iblk V c 3 t :=
  ((dat V b c).before_in_eq_fetched 3 rfl (fun _ => rfl) (fun _ _ _ => rfl) (fun _ => rfl) t d).trans rfl
theorem before_4 (c : Dev nD) (t : Fin cfg1.N) (d : (cfg1.win 4).block.Idx → Elt F (cfg1.win 4).elt) : (dat V b c).before 4 t d = iblk V c 4 t :=
  ((dat V b c).before_in_eq_fetched 4 rfl (fun _ => rfl) (fun _ _ _ => rfl) (fun _ => rfl) t d).trans rfl
theorem before_5 (c : Dev nD) (t : Fin cfg1.N) (d : (cfg1.win 5).block.Idx → Elt F (cfg1.win 5).elt) : (dat V b c).before 5 t d = iblk V c 5 t :=
  ((dat V b c).before_in_eq_fetched 5 rfl (fun _ => rfl) (fun _ _ _ => rfl) (fun _ => rfl) t d).trans rfl
theorem before_6 (c : Dev nD) (t : Fin cfg1.N) (d : (cfg1.win 6).block.Idx → Elt F (cfg1.win 6).elt) : (dat V b c).before 6 t d = iblk V c 6 t :=
  ((dat V b c).before_in_eq_fetched 6 rfl (fun _ => rfl) (fun _ _ _ => rfl) (fun _ => rfl) t d).trans rfl
theorem before_7 (c : Dev nD) (t : Fin cfg1.N) (d : (cfg1.win 7).block.Idx → Elt F (cfg1.win 7).elt) : (dat V b c).before 7 t d = iblk V c 7 t :=
  ((dat V b c).before_in_eq_fetched 7 rfl (fun _ => rfl) (fun _ _ _ => rfl) (fun _ => rfl) t d).trans rfl
theorem before_8 (c : Dev nD) (t : Fin cfg1.N) (d : (cfg1.win 8).block.Idx → Elt F (cfg1.win 8).elt) : (dat V b c).before 8 t d = iblk V c 8 t :=
  ((dat V b c).before_in_eq_fetched 8 rfl (fun _ => rfl) (fun _ _ _ => rfl) (fun _ => rfl) t d).trans rfl

/-- A buffer held through a whole memref at contents reading `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Buf (Elt F) (M.view.loc (c : Thread nD τ)), ⌜M.view.read (Elt F) f = X⌝ ∗ pt c M f) := by
  unfold owns; rw [h.set_eq_univ]

set_option maxRecDepth 65536 in
/-- The body at every point, on the staging buffers the pipeline hands it. -/
theorem body_obligation (c : Dev nD) : BodyObligation (dat V b c) (defs₀ (F := F)) 𝒱₀ (none : HIx 1) Set.univ := fun t => by
  rw [bigSep_W1, bigSep_W1]
  simp only [before_0, before_1, before_2, before_3, before_4, before_5, before_6, before_7, before_8]
  rw [show (dat V b c).Φ t.castSucc = Φc c from rfl, show (dat V b c).Φ t.succ = Φc c from rfl,
    show (dat V b c).owesAt none t.succ = (dat V b c).owesAt none t.castSucc from rfl]
  simp only [owns_pt c (st1_0 t) (hstage1_0 ((cfg1.slots t 0).cast nbuf1_0)), owns_pt c (st1_1 t) (hstage1_1 ((cfg1.slots t 1).cast nbuf1_1)), owns_pt c (st1_2 t) (hstage1_2 ((cfg1.slots t 2).cast nbuf1_2)), owns_pt c (st1_3 t) (hstage1_3 ((cfg1.slots t 3).cast nbuf1_3)), owns_pt c (st1_4 t) (hstage1_4 ((cfg1.slots t 4).cast nbuf1_4)), owns_pt c (st1_5 t) (hstage1_5 ((cfg1.slots t 5).cast nbuf1_5)), owns_pt c (st1_6 t) (hstage1_6 ((cfg1.slots t 6).cast nbuf1_6)), owns_pt c (st1_7 t) (hstage1_7 ((cfg1.slots t 7).cast nbuf1_7)), owns_pt c (st1_8 t) (hstage1_8 ((cfg1.slots t 8).cast nbuf1_8)), owns_pt c (st1_9 t) (hstage1_9 ((cfg1.slots t 9).cast nbuf1_9))]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩⟩
  iapply (mlp_body c (grid1.coords t) _ (hstage1_0 ((cfg1.slots t 0).cast nbuf1_0)) _ (hstage1_1 ((cfg1.slots t 1).cast nbuf1_1))
    _ (hstage1_2 ((cfg1.slots t 2).cast nbuf1_2)) _ (hstage1_3 ((cfg1.slots t 3).cast nbuf1_3)) _ (hstage1_4 ((cfg1.slots t 4).cast nbuf1_4))
    _ (hstage1_5 ((cfg1.slots t 5).cast nbuf1_5)) _ (hstage1_6 ((cfg1.slots t 6).cast nbuf1_6)) _ (hstage1_7 ((cfg1.slots t 7).cast nbuf1_7))
    _ (hstage1_8 ((cfg1.slots t 8).cast nbuf1_8)) _ (hstage1_9 ((cfg1.slots t 9).cast nbuf1_9)) f0 f1 f2 f3 f4 f5 f6 f7 f8 f9 Set.univ _)
  iframe H0 H1 H2 H3 H4 H5 H6 H7 H8 H9
  iintro ⟨H0, H1, H2, H3, H4, H5, H6, H7, H8, %W, %hW, H9⟩
  iframe HΦ Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  isplitl [H7]; · iexists _; isplitr; swap; (· iexact H7); ipureintro; exact hf7
  isplitl [H8]; · iexists _; isplitr; swap; (· iexact H8); ipureintro; exact hf8
  iexists _; isplitr; swap; (· iexact H9); ipureintro
  refine hW.trans ?_
  show _ = blockOut (iblk V c 0 t) (iblk V c 1 t) (iblk V c 2 t) (iblk V c 3 t) (iblk V c 4 t) (iblk V c 5 t) (iblk V c 6 t) (iblk V c 7 t) (iblk V c 8 t)
  rw [← hf0, ← hf1, ← hf2, ← hf3, ← hf4, ← hf5, ← hf6, ← hf7, ← hf8]
  rfl

/-! ## The array the region leaves -/

theorem iblk_1 (c : Dev nD) (t : Fin cfg1.N) : iblk V c 1 t = V c main_arg4 := by
  funext y
  show V c main_arg4 ((win1_1.rect t).emb y) = V c main_arg4 y
  refine congrArg (V c main_arg4) (funext fun a => Fin.ext ?_)
  exact win1_1.rect_emb_val_of_index_zero t a (by fin_cases a <;> rfl) y
theorem iblk_2 (c : Dev nD) (t : Fin cfg1.N) : iblk V c 2 t = V c main_arg5 := by
  funext y
  show V c main_arg5 ((win1_2.rect t).emb y) = V c main_arg5 y
  refine congrArg (V c main_arg5) (funext fun a => Fin.ext ?_)
  exact win1_2.rect_emb_val_of_index_zero t a (by fin_cases a <;> rfl) y
theorem iblk_3 (c : Dev nD) (t : Fin cfg1.N) : iblk V c 3 t = V c main_arg6 := by
  funext y
  show V c main_arg6 ((win1_3.rect t).emb y) = V c main_arg6 y
  refine congrArg (V c main_arg6) (funext fun a => Fin.ext ?_)
  exact win1_3.rect_emb_val_of_index_zero t a (by fin_cases a <;> rfl) y
theorem iblk_4 (c : Dev nD) (t : Fin cfg1.N) : iblk V c 4 t = V c main_arg7 := by
  funext y
  show V c main_arg7 ((win1_4.rect t).emb y) = V c main_arg7 y
  refine congrArg (V c main_arg7) (funext fun a => Fin.ext ?_)
  exact win1_4.rect_emb_val_of_index_zero t a (by fin_cases a <;> rfl) y
theorem iblk_5 (c : Dev nD) (t : Fin cfg1.N) : iblk V c 5 t = V c main_arg8 := by
  funext y
  show V c main_arg8 ((win1_5.rect t).emb y) = V c main_arg8 y
  refine congrArg (V c main_arg8) (funext fun a => Fin.ext ?_)
  exact win1_5.rect_emb_val_of_index_zero t a (by fin_cases a <;> rfl) y
theorem iblk_6 (c : Dev nD) (t : Fin cfg1.N) : iblk V c 6 t = V c main_arg9 := by
  funext y
  show V c main_arg9 ((win1_6.rect t).emb y) = V c main_arg9 y
  refine congrArg (V c main_arg9) (funext fun a => Fin.ext ?_)
  exact win1_6.rect_emb_val_of_index_zero t a (by fin_cases a <;> rfl) y
theorem iblk_7 (c : Dev nD) (t : Fin cfg1.N) : iblk V c 7 t = V c main_v1 := by
  funext y
  show V c main_v1 ((win1_7.rect t).emb y) = V c main_v1 y
  refine congrArg (V c main_v1) (funext fun a => Fin.ext ?_)
  exact win1_7.rect_emb_val_of_index_zero t a (by fin_cases a <;> rfl) y
theorem iblk_8 (c : Dev nD) (t : Fin cfg1.N) : iblk V c 8 t = V c main_arg11 := by
  funext y
  show V c main_arg11 ((win1_8.rect t).emb y) = V c main_arg11 y
  refine congrArg (V c main_arg11) (funext fun a => Fin.ext ?_)
  exact win1_8.rect_emb_val_of_index_zero t a (by fin_cases a <;> rfl) y

theorem index_0 (t : Fin cfg1.N) : win1_0.index t 0 = t.val ∧ win1_0.index t 1 = 0 := by
  rcases fin_N1 t with rfl | rfl | rfl | rfl <;> decide +kernel
theorem index_9 (t : Fin cfg1.N) : win1_9.index t 0 = t.val ∧ win1_9.index t 1 = 0 := by
  rcases fin_N1 t with rfl | rfl | rfl | rfl <;> decide +kernel

/-- A grid point by number. -/
abbrev pn (t : Fin cfg1.N) : Fin 4 := ⟨t.val, lt_of_lt_of_eq t.isLt N_1⟩

theorem iblk_0 (c : Dev nD) (t : Fin cfg1.N) : iblk V c 0 t = xBlk (V c main_v0) (pn t) := by
  funext y
  show V c main_v0 ((win1_0.rect t).emb y) = V c main_v0 _
  refine congrArg (V c main_v0) (funext fun a => Fin.ext ?_)
  rw [win1_0.rect_emb_val t y a rfl]
  have h := index_0 t
  match a with
  | ⟨0, _⟩ => show win1_0.index t 0 * 4096 + (y 0).val = 4096 * t.val + (y 0).val; rw [h.1]; omega
  | ⟨1, _⟩ => show win1_0.index t 1 * 256 + (y 1).val = (y 1).val; rw [h.2]; omega

theorem mlpAll_apply (x : Vec F S16384x256 .f32) (w1 : Vec F S256x1024 .f32) (b1 : Vec F S1024 .f32) (w2 : Vec F S1024x512 .f32)
    (b2 : Vec F S512 .f32) (w3 : Vec F S512x256 .f32) (b3 : Vec F S256 .f32) (wd : Vec F S256 .f32) (bd : Vec F S1 .f32)
    (t : Fin 4) (y : S4096x1.Idx) (i : S16384x1.Idx) (h0 : (i 0).val = 4096 * t.val + (y 0).val) (h1 : (i 1).val = (y 1).val) :
    mlpAll x w1 b1 w2 b2 w3 b3 wd bd i = blockOut (xBlk x t) w1 b1 w2 b2 w3 b3 wd bd y := by
  unfold mlpAll
  have hy : (y 0).val < 4096 := (y 0).isLt
  have e1 : (⟨(i 0).val / 4096, by have h : (i 0).val < 16384 := (i 0).isLt; omega⟩ : Fin 4) = t := Fin.ext (by show (i 0).val / 4096 = t.val; omega)
  have e2 : (ix2 (⟨(i 0).val % 4096, Nat.mod_lt _ (by decide)⟩ : Fin 4096) (i 1 : Fin 1) : S4096x1.Idx) = y := by
    rw [eq_ix2 y]
    refine congrArg₂ ix2 (Fin.ext ?_) (Fin.ext h1)
    show (i 0).val % 4096 = (y 0).val
    omega
  rw [e1]
  exact congrArg _ e2

/-- After the region the result's array is the column. -/
theorem arr_final (c : Dev nD) : (dat V b c).arrAt 9 cfg1.N
    = mlpAll (V c main_v0) (V c main_arg4) (V c main_arg5) (V c main_arg6) (V c main_arg7) (V c main_arg8) (V c main_arg9) (V c main_v1) (V c main_arg11) := by
  refine (dat V b c).arrAt_eq_of_cover 9 _ (fun t _ => ?_) fun i => ?_
  · funext y
    show outAt V c t y = mlpAll _ _ _ _ _ _ _ _ _ ((win1_9.rect t).emb y)
    have h := index_9 t
    rw [mlpAll_apply _ _ _ _ _ _ _ _ _ (pn t) y ((win1_9.rect t).emb y)
      (by rw [win1_9.rect_emb_val t y 0 rfl, h.1]; show t.val * 4096 + (y 0).val = 4096 * t.val + (y 0).val; omega)
      (by rw [win1_9.rect_emb_val t y 1 rfl, h.2]; show 0 * 1 + (y 1).val = (y 1).val; omega)]
    unfold outAt
    rw [iblk_0, iblk_1, iblk_2, iblk_3, iblk_4, iblk_5, iblk_6, iblk_7, iblk_8]
  · have h0 : (i 0).val < 16384 := (i 0).isLt
    have h1 : (i 1).val < 1 := (i 1).isLt
    let t : Fin cfg1.N := ⟨(i 0).val / 4096, by rw [show cfg1.N = 4 from N_1]; omega⟩
    refine ⟨t, flush1_9 t, ?_⟩
    show i ∈ ((View.whole main_v2).slice (win1_9.rect t)).set
    rw [View.set_slice_whole, Rect.mem_set_unit]
    have h := index_9 t
    intro a
    match a with
    | ⟨0, _⟩ =>
      show win1_9.index t 0 * 4096 ≤ (i 0).val ∧ (i 0).val < win1_9.index t 0 * 4096 + 4096
      rw [h.1]; show (i 0).val / 4096 * 4096 ≤ _ ∧ _ < (i 0).val / 4096 * 4096 + 4096; omega
    | ⟨1, _⟩ =>
      show win1_9.index t 1 * 1 ≤ (i 1).val ∧ (i 1).val < win1_9.index t 1 * 1 + 1
      rw [h.2]; omega

/-! ## The region as a segment of @main -/

abbrev adm : (p : Fin 1) → (pcfgs (F := F) p).Adm := fun p => (cfgs p).toPCfg_adm

/-- The proof data of the program's one pipeline. -/
def pdats : (p : Fin 1) → (c : Dev nD) → Dat τ (Elt F) (HIx 1) ℕ UU ℕ (Pipeline.pin (pcfgs (F := F)) adm p) c
  | ⟨0, _⟩ => fun c => dat V b c

variable (Vp : (c : Dev nD) → (b : Ref sig .tc) → Buf (Elt F) ((c : Thread nD τ).loc b))

/-- What the core owes between host operations: nothing, every recorded wait at or below level `b`. -/
abbrev owesB (c : Dev nD) : sProp 𝕄 :=
  iprop(∃ W, ⌜(K (F := F)).WBelow (T c) W b⌝ ∗ owes (T c) (0 : CellTallies nD τ sig (HIx 1)) W)

set_option maxRecDepth 65536 in
set_option backward.isDefEq.respectTransparency.types false in
/-- The region: entered with every unscoped buffer at `V`, left with them at `Vp`, which is `V` with the result's array
    at the column. -/
def reg (hVp_out : ∀ c, Vp c main_v2 = mlpAll (V c main_v0) (V c main_arg4) (V c main_arg5) (V c main_arg6) (V c main_arg7) (V c main_arg8) (V c main_arg9) (V c main_v1) (V c main_arg11))
    (hVp_ne : ∀ c (r : Ref sig .tc), r ≠ main_v2 → Vp c r = V c r) :
    Pipeline.RegionSeg (pcfgs (F := F)) adm (pdats V b) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V b c).loose
  hwaits := Pipeline.hwaits_of_owed_zero _ _ _ _ (K (F := F)).L (K (F := F)).lev 0 fun _ _ => rfl
  pre c := iprop(unscopedBufs c (V c) ∗ owesB b c)
  post c := iprop(unscopedBufs c (Vp c) ∗ owesB b c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V b) launch1.win launch1.arr_whole c
      ((pdats V b 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V b 0 c).Φ 0 = Φc c from rfl]
    iintro ⟨-, -, Hr⟩; iexact Hr
  hout c := by
    rw [Pipeline.ownSems0_none, show (pdats V b 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V b) ((pdats V b 0 c).share_full fun _ => rfl) (V c) (Vp c) ((pdats V b 0 c).arrAt · cfg1.N)
      (fun w => by
        fin_cases w
        · exact ((pdats V b 0 c).arrAt_in 0 rfl _).trans (hVp_ne c main_v0 (by decide)).symm
        · exact ((pdats V b 0 c).arrAt_in 1 rfl _).trans (hVp_ne c main_arg4 (by decide)).symm
        · exact ((pdats V b 0 c).arrAt_in 2 rfl _).trans (hVp_ne c main_arg5 (by decide)).symm
        · exact ((pdats V b 0 c).arrAt_in 3 rfl _).trans (hVp_ne c main_arg6 (by decide)).symm
        · exact ((pdats V b 0 c).arrAt_in 4 rfl _).trans (hVp_ne c main_arg7 (by decide)).symm
        · exact ((pdats V b 0 c).arrAt_in 5 rfl _).trans (hVp_ne c main_arg8 (by decide)).symm
        · exact ((pdats V b 0 c).arrAt_in 6 rfl _).trans (hVp_ne c main_arg9 (by decide)).symm
        · exact ((pdats V b 0 c).arrAt_in 7 rfl _).trans (hVp_ne c main_v1 (by decide)).symm
        · exact ((pdats V b 0 c).arrAt_in 8 rfl _).trans (hVp_ne c main_arg11 (by decide)).symm
        · exact (arr_final V b c).trans (hVp_out c).symm)
      (fun r hr => hVp_ne c r fun h => hr (h ▸ Finset.mem_image.mpr ⟨9, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.Run

end
-- ==== Proof.Main.lean ====
/-
  @main on the TensorCore — the SparseCore call, the reshape of the last weights, the TensorCore's kernel, the reshape
  of its column — and the whole program's run: the result's array as one function of the arguments, the arguments as
  they were.
-/
module

public import proofs.«01_k».proof.Proof.Tile
public import proofs.«01_k».proof.Proof.Split
public import proofs.«01_k».proof.Proof.Mlp

@[expose] public section

noncomputable section

namespace Cert.Proof.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F]

local notation "𝕄" => MM F

variable (m : (ℓ : Loc nD τ sig) → Buf (Elt F) ℓ) (ρ : Dev nD → PrngReg)

/-! ## The buffers along @main -/

/-- The TensorCore's unscoped references. -/
def ucRefs : Finset (DevRef τ sig) := (StableHlo.tcRefs τ sig).filter fun b => ¬ b.isScoped

theorem unscopedBufs_held (d : Dev nD) (W : Valuation τ sig (Elt F)) :
    (unscopedBufs d (fun b => W b) : sProp 𝕄) = StableHlo.held (d : Thread nD τ) ucRefs W := by
  unfold unscopedBufs StableHlo.held ucRefs StableHlo.tcRefs
  rw [Finset.filter_map, bigSep_map]
  rfl

theorem unscopedBufs_launch (d : Dev nD) :
    (unscopedBufs d (fun b => m ((SparseCore.T d).loc b)) : sProp 𝕄) = StableHlo.held (d : Thread nD τ) ucRefs (fun b => m (d, b)) := by
  unfold unscopedBufs StableHlo.held ucRefs StableHlo.tcRefs
  rw [Finset.filter_map, bigSep_map]
  rfl

/-- The SparseCore call's operands. -/
def T5 : Finset (DevRef τ sig) :=
  {Proc.devRef .tc main_arg0, Proc.devRef .tc main_arg1, Proc.devRef .tc main_arg2, Proc.devRef .tc main_arg3, Proc.devRef .tc main_v0}

theorem T5_sub : T5 ⊆ ucRefs := by decide

theorem held_T5 (d : Dev nD) (W : Valuation τ sig (Elt F)) : (StableHlo.held (d : Thread nD τ) T5 W : sProp 𝕄)
    = iprop((uLoc d ↦{fullShare} W (Proc.devRef .tc main_arg0)) ∗ (iLoc d ↦{fullShare} W (Proc.devRef .tc main_arg1)) ∗ (utLoc d ↦{fullShare} W (Proc.devRef .tc main_arg2))
        ∗ (itLoc d ↦{fullShare} W (Proc.devRef .tc main_arg3)) ∗ xLoc d ↦{fullShare} W (Proc.devRef .tc main_v0)) := by
  unfold StableHlo.held T5
  rw [SparseCore.bigSep_insert' (by decide), SparseCore.bigSep_insert' (by decide), SparseCore.bigSep_insert' (by decide), SparseCore.bigSep_insert' (by decide), bigSep_singleton]

/-- The reshape of the last weights, … -/
abbrev op1 : HloOp τ sig (Elt F) := StableHlo.reshape main_arg10 main_v1 (rfl : (.f32 : EltTy) = .f32) shapeCasts_S256x1_S256
/-- … and the reshape of the kernel's column. -/
abbrev op2 : HloOp τ sig (Elt F) := StableHlo.reshape main_v2 main_v3 (rfl : (.f32 : EltTy) = .f32) shapeCasts_S16384x1_S16384

theorem op1_bufs : (op1 (F := F)).bufs ⊆ ucRefs := by
  rw [StableHlo.reshape_bufs]
  decide
theorem op2_bufs : (op2 (F := F)).bufs ⊆ ucRefs := by
  rw [StableHlo.reshape_bufs]
  decide

/-- The contents at launch, … -/
def W0 (d : Dev nD) : Valuation τ sig (Elt F) := fun b => m (d, b)
/-- … after the SparseCore call, … -/
def W1 (d : Dev nD) : Valuation τ sig (Elt F) := Function.update (W0 m d) (Proc.devRef .tc main_v0) (X m d)
/-- … after the reshape of the last weights, … -/
def W2 (d : Dev nD) : Valuation τ sig (Elt F) := (op1 (F := F)).result (W1 m d)
/-- … after the TensorCore's kernel, … -/
def W3 (d : Dev nD) : Valuation τ sig (Elt F) := Function.update (W2 m d) (Proc.devRef .tc main_v2)
  (mlpAll (X m d) (m ((d : Thread nD τ).loc main_arg4)) (m ((d : Thread nD τ).loc main_arg5)) (m ((d : Thread nD τ).loc main_arg6)) (m ((d : Thread nD τ).loc main_arg7))
    (m ((d : Thread nD τ).loc main_arg8)) (m ((d : Thread nD τ).loc main_arg9)) (shapeCast S256 (m ((d : Thread nD τ).loc main_arg10)) shapeCasts_S256x1_S256) (m ((d : Thread nD τ).loc main_arg11)))
/-- … and after the reshape of its column. -/
def W4 (d : Dev nD) : Valuation τ sig (Elt F) := (op2 (F := F)).result (W3 m d)

theorem W1_v0 (d : Dev nD) : W1 m d (Proc.devRef .tc main_v0) = X m d := Function.update_self _ _ _
theorem W1_ne (d : Dev nD) {r : Ref sig .tc} (h : r ≠ main_v0) : W1 m d (Proc.devRef .tc r) = m ((d : Thread nD τ).loc r) :=
  Function.update_of_ne (StableHlo.devRef_ne_of_ne h) _ _
theorem W2_v1 (d : Dev nD) : W2 m d (Proc.devRef .tc main_v1) = shapeCast S256 (m ((d : Thread nD τ).loc main_arg10)) shapeCasts_S256x1_S256 := by
  unfold W2
  rw [StableHlo.reshape_result, W1_ne m d (by decide)]
  rfl
theorem W2_ne (d : Dev nD) {r : Ref sig .tc} (h : r ≠ main_v1) : W2 m d (Proc.devRef .tc r) = W1 m d (Proc.devRef .tc r) :=
  StableHlo.reshape_result_ne _ _ _ _ _ _ _ h
theorem W3_ne (d : Dev nD) {r : Ref sig .tc} (h : r ≠ main_v2) : W3 m d (Proc.devRef .tc r) = W2 m d (Proc.devRef .tc r) :=
  Function.update_of_ne (StableHlo.devRef_ne_of_ne h) _ _
theorem W4_ne (d : Dev nD) {r : Ref sig .tc} (h : r ≠ main_v3) : W4 m d (Proc.devRef .tc r) = W3 m d (Proc.devRef .tc r) :=
  StableHlo.reshape_result_ne _ _ _ _ _ _ _ h

/-- What the program leaves in its result, over the launch memory. -/
def resK (d : Dev nD) : Vec F S16384 .f32 :=
  shapeCast S16384 (mlpAll (X m d) (m ((d : Thread nD τ).loc main_arg4)) (m ((d : Thread nD τ).loc main_arg5)) (m ((d : Thread nD τ).loc main_arg6)) (m ((d : Thread nD τ).loc main_arg7))
    (m ((d : Thread nD τ).loc main_arg8)) (m ((d : Thread nD τ).loc main_arg9)) (shapeCast S256 (m ((d : Thread nD τ).loc main_arg10)) shapeCasts_S256x1_S256) (m ((d : Thread nD τ).loc main_arg11)))
    shapeCasts_S16384x1_S16384

theorem W4_v3 (d : Dev nD) : W4 m d (Proc.devRef .tc main_v3) = resK m d := by
  unfold W4
  rw [StableHlo.reshape_result]
  unfold W3
  rw [Function.update_self]
  rfl
/-- An argument ends as it began. -/
theorem W4_arg (d : Dev nD) {r : Ref sig .tc} (h0 : r ≠ main_v0) (h1 : r ≠ main_v1) (h2 : r ≠ main_v2) (h3 : r ≠ main_v3) :
    W4 m d (Proc.devRef .tc r) = m ((d : Thread nD τ).loc r) := by
  rw [W4_ne m d h3, W3_ne m d h2, W2_ne m d h1, W1_ne m d h0]

/-! ## The launch element of the ghost state -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main is given of the pipeline's ghost state. -/
abbrev G (d : Dev nD) : sProp 𝕄 :=
  iprop(Pipeline.cellsGhost (nD := nD) (τ := τ) cfgs (EP (F := F)) 0 d ∗ Pipeline.toksInit (nD := nD) (τ := τ) cfgs (EP (F := F)) 0 d)

theorem hu₀ : (ownU (u₀ (F := F)) : sProp 𝕄)
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((initOf (Pipeline.cells (nD := nD) (τ := τ) cfgs cellOf_inj) (Pipeline.launchToks (nD := nD) (τ := τ) cfgs cellOf_inj), 1) : UP × Counters)) $$ Hu
  icases H with ⟨HH, HR⟩
  ihave H' := (own_pair_emb _ _ _) $$ HR
  icases H' with ⟨HP, -⟩
  imod (Pipeline.fund_ghost (nD := nD) (τ := τ) cfgs (EP (F := F)) cellOf_inj) $$ HP with ⟨Hg, Ht⟩
  imodintro
  isplitl [HH]; · iexact HH
  isplitl [Hg Ht]
  · unfold G
    rw [bigSep_sep']
    isplitl [Hg]
    · rw [show (bigSep Finset.univ fun d : Dev nD => Pipeline.cellsGhost (nD := nD) (τ := τ) cfgs (EP (F := F)) 0 d : sProp 𝕄) = bigSep Finset.univ fun c : Dev nD => bigSep Finset.univ fun p => Pipeline.cellsGhost (nD := nD) (τ := τ) cfgs (EP (F := F)) p c from
        bigSep_congr fun c _ => (bigSep_univ_of_subsingleton (Φ := fun p => Pipeline.cellsGhost (nD := nD) (τ := τ) cfgs (EP (F := F)) p c) (0 : Fin 1)).symm]
      iexact Hg
    · rw [show (bigSep Finset.univ fun d : Dev nD => Pipeline.toksInit (nD := nD) (τ := τ) cfgs (EP (F := F)) 0 d : sProp 𝕄) = bigSep Finset.univ fun c : Dev nD => bigSep Finset.univ fun p => Pipeline.toksInit (nD := nD) (τ := τ) cfgs (EP (F := F)) p c from
        bigSep_congr fun c _ => (bigSep_univ_of_subsingleton (Φ := fun p => Pipeline.toksInit (nD := nD) (τ := τ) cfgs (EP (F := F)) p c) (0 : Fin 1)).symm]
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  iapply (Entails.of_eq (show (iprop(emp) : sProp 𝕄) = bigSep Finset.univ fun _ : Thread nD τ => iprop(emp) from (bigSep_emp_const Finset.univ).symm))
  iempintro

/-! ## @main -/

theorem held_W1 (d : Dev nD) : (StableHlo.held (d : Thread nD τ) ucRefs (W1 m d) : sProp 𝕄)
    = iprop(whole5 m d (X m d) ∗ StableHlo.held (d : Thread nD τ) (ucRefs \ T5) (fun b => m (d, b))) := by
  rw [StableHlo.held_sub_split _ T5_sub, held_T5, W1_v0, W1_ne m d (by decide), W1_ne m d (by decide), W1_ne m d (by decide), W1_ne m d (by decide),
    StableHlo.held_congr (d : Thread nD τ) (S := ucRefs \ T5) (V := W1 m d) (V' := fun b => m (d, b)) fun b hb => Function.update_of_ne (by
      rintro rfl
      exact (Finset.mem_sdiff.mp hb).2 (by decide)) _ _]

theorem held_reg (d : Dev nD) : (StableHlo.held (SparseCore.T d) ucRefs (op1.result (W1 m d)) : sProp 𝕄)
    = unscopedBufs d (fun r => W2 m d (Proc.devRef .tc r)) := (unscopedBufs_held d (W2 m d)).symm

/-- The TensorCore kernel's region, from the buffers after the reshape to those with its column written. -/
def reg1 (b : ℕ) : Pipeline.RegionSeg (Val := Elt F) pcfgs adm (pdats (fun c r => W2 m c (Proc.devRef .tc r)) b) (none : HIx 1) defs₀ 𝒱₀ (K (F := F)).L (K (F := F)).lev 0 :=
  reg (fun c r => W2 m c (Proc.devRef .tc r)) b (fun c r => W3 m c (Proc.devRef .tc r))
    (fun c => by
      show W3 m c _ = _
      unfold W3
      rw [Function.update_self, W2_v1, W2_ne m c (by decide : main_v0 ≠ main_v1), W1_v0]
      rw [W2_ne m c (by decide : main_arg4 ≠ main_v1), W2_ne m c (by decide : main_arg5 ≠ main_v1), W2_ne m c (by decide : main_arg6 ≠ main_v1), W2_ne m c (by decide : main_arg7 ≠ main_v1),
        W2_ne m c (by decide : main_arg8 ≠ main_v1), W2_ne m c (by decide : main_arg9 ≠ main_v1), W2_ne m c (by decide : main_arg11 ≠ main_v1)]
      rw [W1_ne m c (by decide : main_arg4 ≠ main_v0), W1_ne m c (by decide : main_arg5 ≠ main_v0), W1_ne m c (by decide : main_arg6 ≠ main_v0), W1_ne m c (by decide : main_arg7 ≠ main_v0),
        W1_ne m c (by decide : main_arg8 ≠ main_v0), W1_ne m c (by decide : main_arg9 ≠ main_v0), W1_ne m c (by decide : main_arg11 ≠ main_v0)])
    (fun c r h => W3_ne m c h)

/-- After the one call the TensorCore owes nothing. -/
theorem Otc_one (d : Dev nD) : (K (F := F)).Otc d 1 = 0 := by
  unfold SparseCore.Cfg.Otc
  exact Finset.sum_eq_zero fun q _ => if_neg (by have := q.isLt; omega)

theorem reg1_pre (b : ℕ) (d : Dev nD) : (reg1 m b).pre d = iprop(unscopedBufs d (fun r => W2 m d (Proc.devRef .tc r)) ∗ owesB b d) := rfl
theorem reg1_post (b : ℕ) (d : Dev nD) : (reg1 m b).post d = iprop(unscopedBufs d (fun r => W3 m d (Proc.devRef .tc r)) ∗ owesB b d) := rfl

/-- What @main keeps for the end: every unscoped buffer at its last contents. -/
abbrev FIN (d : Dev nD) : sProp 𝕄 := StableHlo.held (d : Thread nD τ) ucRefs (W4 m d)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_launch,
    StableHlo.held_sub_split _ T5_sub, held_T5]
  simp only [main, wp_bind, wp_pure]
  iintro ⟨#Hctx, Hst, ⟨Hb, ⟨H5, Hrest⟩, Hts, -⟩, HG⟩
  ihave #Hlev := ((K (F := F)).ctx_levAts κ) $$ Hctx
  iapply ((K (F := F)).wp_run (D (F := F)) 𝒱 (EH := EH) (P := P m) κ d 0)
  isplitr; · iexact Hctx
  isplitl [Hst]; · iexact Hst
  isplitl [H5]
  · rw [st_eq]
    iexact H5
  iintro ⟨Hst, Hdn⟩
  ihave H5 := (Entails.of_eq (dn_eq m d)) $$ Hdn
  ihave Hheld := (Entails.of_eq (held_W1 m d).symm) $$ [H5 Hrest]
  · isplitl [H5]; · iexact H5
    iexact Hrest
  iapply (StableHlo.wp_hlo_within 𝒱 (SparseCore.T d) none Set.univ (op := op1) (S := ucRefs) op1_bufs (V := W1 m d)) $$ [Hb Hheld]
  · isplitl [Hb]; · iexact Hb
    iexact Hheld
  iintro ⟨Hb, Hheld⟩
  rw [wp_ret]
  imodintro
  ihave Hub := (Entails.of_eq (held_reg m d)) $$ Hheld
  unfold SparseCore.Cfg.tcSt
  icases Hst with ⟨HO, Hst⟩
  rw [show (Fin.val (0 : Fin 1)) + 1 = 1 from rfl, Otc_one]
  icases HG with ⟨Hg, Ht⟩
  iapply ((K (F := F)).wp_liftProg (D (F := F)) 𝒱 (SparseCore.T d) Set.univ none (.op (.customCall (Pipeline.entry 0) ()) .ret) _)
  iapply (Pipeline.RegionSeg.wp pcfgs adm _ (none : HIx 1) cellOf_inj EP defs₀ 𝒱₀ (K (F := F)).L (K (F := F)).lev
    (reg1 m (8 * SparseCore.Cfg.Blocks.fst 1 1 1)) d none (by intro _ h; nomatch h) .ret _)
  isplitr [Hb Hub HO Hg Ht]
  · iintro ⟨Hb, Hpost⟩
    rw [wp_ret]
    imodintro
    ihave Hpost := (Entails.of_eq (reg1_post m _ d)) $$ Hpost
    icases Hpost with ⟨Hub, HO⟩
    ihave Hheld := (Entails.of_eq (unscopedBufs_held d (W3 m d))) $$ Hub
    iapply (StableHlo.wp_hlo_within 𝒱 (SparseCore.T d) none Set.univ (op := op2) (S := ucRefs) op2_bufs (V := W3 m d)) $$ [Hb Hheld]
    · isplitl [Hb]; · iexact Hb
      iexact Hheld
    iintro ⟨Hb, Hheld⟩
    rw [wp_ret]
    imodintro
    imodintro
    unfold owesB
    isplitl [HO Hst]
    · isplitl [HO]; · iexact HO
      iexact Hst
    isplitl [Hheld]; · iexact Hheld
    isplitl [Hb]; · iexact Hb
    iexact Hts
  isplitl [Hb]; · iexact Hb
  isplitl [Hub HO]
  · iapply (Entails.of_eq (reg1_pre m _ d).symm)
    isplitl [Hub]; · iexact Hub
    unfold owesB
    iexact HO
  isplitr; · iexact Hlev
  isplitl [Hg]; · iexact Hg
  iexact Ht

/-! ## The run -/

/-- At the end the memory reads the last contents on the TensorCore's unscoped buffers. -/
def fq (d : Dev nD) (s' : Phys nD τ sig (Elt F)) : Prop := ∀ b ∈ ucRefs, s'.mem.mem (d, b) = W4 m d b

theorem hfin (d : Dev nD) (s' : Phys nD τ sig (Elt F)) : iprop(FIN m d ∗ SI s') ⊢ (⌜fq m d s'⌝ : sProp 𝕄) :=
  fun x hx b hb => by
    have h1 : iprop(FIN m d ∗ SI s') ⊢ (⌜∀ i ∈ Finset.univ, s'.mem.mem (d, b) i = W4 m d b i⌝ : sProp 𝕄) := by
      unfold FIN StableHlo.held
      rw [show (bigSep ucRefs fun b => ((d, b) ↦{fullShare} W4 m d b : sProp 𝕄)) = iprop(((d, b) ↦{fullShare} W4 m d b) ∗ bigSep (ucRefs.erase b) fun b => ((d, b) ↦{fullShare} W4 m d b)) from bigSep_erase hb]
      iintro ⟨⟨Hb, -⟩, HSI⟩
      iapply (SI_pointsTo_agree (st := s') (ℓ := (d, b)) (I := Finset.univ) (q := fullShare) (f := W4 m d b))
      isplitl [HSI]; · iexact HSI
      iexact Hb
    exact funext fun i => h1 x hx i (Finset.mem_univ i)

/-- What the program leaves: its result at `resK`, its arguments as they were. -/
def QC : PUnit × MemSt nD τ sig (Elt F) → Prop := fun r => (∀ c : Dev nD,
    r.2.mem ((c.tc : Thread nD τ).loc main_v3) = resK m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11))
  ∧ r.2.sem = fun _ => 0

theorem QC_of_fq (s' : Phys nD τ sig (Elt F)) (h : ∀ d, fq m d s') (hz : s'.mem.sem = fun _ => 0) : QC m (⟨⟩, s'.mem) := by
  have arg : ∀ (c : Dev nD) (r : Ref sig .tc), Proc.devRef .tc r ∈ ucRefs → r ≠ main_v0 → r ≠ main_v1 → r ≠ main_v2 → r ≠ main_v3 →
      s'.mem.mem ((c.tc : Thread nD τ).loc r) = m ((c.tc : Thread nD τ).loc r) := fun c r hr h0 h1 h2 h3 =>
    (h c _ hr).trans (W4_arg m c h0 h1 h2 h3)
  refine ⟨fun c => ⟨(h c (Proc.devRef .tc main_v3) (by decide)).trans (W4_v3 m c), ?_⟩, hz⟩
  refine ⟨?_, ?_, ?_, ?_, ?_, ?_, ?_, ?_, ?_, ?_, ?_, ?_⟩ <;> exact arg c _ (by decide) (by decide) (by decide) (by decide) (by decide)

/-- The whole program, for any float values and any launch memory whose indices are in range: it terminates without
    fault, its result is `resK`, its arguments are unchanged and every semaphore counter reads zero again. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main G (FIN m) (u₀ (F := F)) (sep_elim_left.trans (hu₀ m)) (hmain m ρ) (fq m) (hfin m) (QC m) (QC_of_fq m)

end Cert.Proof.Run

end
-- ==== Proof.Layers.lean ====
/-
  The mathematics of the network at the ideal values: one dense layer and the score of one row, and both programs'
  spellings of them — the TensorCore kernel's products of narrowed operands into a zero splat, its rows broadcast from
  one-row casts and its last product as a sum along a row; the reference's `dot_general`s and `broadcast_in_dim`s — read
  at a row and a column.
-/
module

public import Idealize.ShloMosaic.Lib.KernelVsHost
public import Idealize.ShloMosaic.Lib.Pipeline.Value
public import Idealize.ShloMosaic.Lib.ValueIdx
public import Idealize.ShloMosaic.Lib.IdealHost
public import Idealize.ShloMosaic.Lib.Pointwise.Reshape
public import Idealize.ShloMosaic.PureOps.Ideal.Laws

@[expose] public section

noncomputable section

namespace Cert.Proof.Layers

open Idealize.ShloMosaic hiding ix1 ix2
open Idealize.ShloMosaic.ValueIdx

/-- The shape of a matrix and of a vector. -/
abbrev Mat (m n : Nat) : Shape := ⟨2, ![m, n]⟩
abbrev Vct (n : Nat) : Shape := ⟨1, ![n]⟩

/-- One output of a dense layer with a ReLU: the row times a column of the weights, plus the bias, cut at zero. -/
def dense {K N : Nat} (x : Fin K → EReal) (w : (Mat K N).Idx → EReal) (b : (Vct N).Idx → EReal) (n : Fin N) : EReal :=
  max ((∑ k : Fin K, x k * w (ix2 k n)) + b (ix1 n)) 0

/-- The logistic function. -/
def sigmoid (o : EReal) : EReal := Ideal.div 1 (1 + Ideal.exp (-o))

/-- The score of one row: three dense layers, the product with the last weights, the last bias, the logistic. -/
def score {K N₁ N₂ N₃ : Nat} (x : Fin K → EReal) (w1 : (Mat K N₁).Idx → EReal) (b1 : (Vct N₁).Idx → EReal) (w2 : (Mat N₁ N₂).Idx → EReal)
    (b2 : (Vct N₂).Idx → EReal) (w3 : (Mat N₂ N₃).Idx → EReal) (b3 : (Vct N₃).Idx → EReal) (wd : Fin N₃ → EReal) (bd : EReal) : EReal :=
  sigmoid ((∑ k : Fin N₃, dense (dense (dense x w1 b1) w2 b2) w3 b3 k * wd k) + bd)

/-- A plain product's sum over its contraction index is the sum over the shared coordinate. -/
theorem plain_sum {M K N : Nat} (A : (Mat M K).Idx → EReal) (B : (Mat K N).Idx → EReal) (i : Fin M) (j : Fin N) :
    (∑ q : (DotDims.plain M K N).contr.Idx, A ((DotDims.plain M K N).lhsIdx (ix2 i j) q) * B ((DotDims.plain M K N).rhsIdx (ix2 i j) q))
      = ∑ k : Fin K, A (ix2 i k) * B (ix2 k j) := by
  rw [← Equiv.sum_comp (contrEquiv1 (DotDims.plain M K N) K rfl rfl).symm]
  refine Finset.sum_congr rfl fun k _ => ?_
  have hk := contrEquiv1_symm_val (DotDims.plain M K N) K rfl rfl k
  congr 1
  · refine congrArg A (funext fun a => Fin.ext ?_)
    match a with
    | ⟨0, _⟩ => rfl
    | ⟨1, _⟩ => exact hk
  · refine congrArg B (funext fun a => Fin.ext ?_)
    match a with
    | ⟨0, _⟩ => exact hk
    | ⟨1, _⟩ => rfl

/-- A vector cast to one row and broadcast down the rows reads the vector at the column. -/
theorem kernel_row {M N : Nat} (b : (Vct N).Idx → EReal) (h1 : (Vct N).ShapeCasts (Mat 1 N)) (hb : (Mat 1 N).Broadcasts (Mat M N)) (i : Fin M) (j : Fin N) :
    broadcastTo (Mat M N) (shapeCast (Mat 1 N) b h1) hb (ix2 i j) = b (ix1 j) := by
  have hd : (Vct N).BroadcastsInDim (Mat M N) ![1] :=
    ⟨Function.injective_of_subsingleton _, fun a => match a with | ⟨0, _⟩ => .inr rfl⟩
  rw [broadcastTo_row_eq_broadcastInDim b h1 hb hd]
  refine broadcastInDim_apply _ _ _ _ _ fun a => ?_
  match a with
  | ⟨0, _⟩ =>
    show j.val = if N = 1 then 0 else j.val
    split
    · have := j.isLt; omega
    · rfl

/-- The kernel's dense layer at a row and a column. -/
theorem kernel_dense {M K N : Nat} (d : DotDims (Mat M K) (Mat K N) (Mat M N)) (hd : d = DotDims.plain M K N)
    (x : FVec Ideal (Mat M K) .f32) (w : FVec Ideal (Mat K N) .f32) (b : FVec Ideal (Vct N) .f32) (hl : FTy.bf16.bits < FTy.f32.bits)
    (h1 : (Vct N).ShapeCasts (Mat 1 N)) (hb : (Mat 1 N).Broadcasts (Mat M N)) (i : Fin M) (j : Fin N) :
    maximumf (addf (matmul d none (truncf .bf16 x hl) (truncf .bf16 w hl) (constant (Mat M N) .f32 0x00000000#32)) (broadcastTo (Mat M N) (shapeCast (Mat 1 N) b h1) hb))
        (broadcast (Mat M N) (Scalar.ofBits (F := Ideal) .f32 0x00000000#32)) (ix2 i j)
      = dense (fun k => x (ix2 i k)) w b j := by
  subst hd
  rw [maximumf_apply, addf_apply, kernel_row]
  simp only [matmul]
  rw [Ideal.matmul_constant_zero_apply, plain_sum]
  show max _ (Ideal.ofBits .f32 0x00000000#32) = _
  rw [Ideal.ofBits_zero_f32]
  rfl

/-- A vector broadcast to one row and then down the rows reads the vector at the column. -/
theorem host_row {M N : Nat} (b : (Vct N).Idx → EReal) (h1 : (Vct N).BroadcastsInDim (Mat 1 N) ![1]) (h2 : (Mat 1 N).BroadcastsInDim (Mat M N) ![0, 1]) (i : Fin M) (j : Fin N) :
    broadcastInDim (Mat M N) ![0, 1] h2 (broadcastInDim (Mat 1 N) ![1] h1 b) (ix2 i j) = b (ix1 j) := by
  rw [broadcastInDim_apply _ _ _ _ (ix2 (0 : Fin 1) j) fun a => ?_, broadcastInDim_apply _ _ _ _ (ix1 j) fun a => ?_]
  · match a with
    | ⟨0, _⟩ =>
      show j.val = if N = 1 then 0 else j.val
      split
      · have := j.isLt; omega
      · rfl
  · match a with
    | ⟨0, _⟩ => rfl
    | ⟨1, _⟩ =>
      show j.val = if N = 1 then 0 else j.val
      split
      · have := j.isLt; omega
      · rfl

/-- The reference's dense layer at a row and a column. -/
theorem host_dense {M K N : Nat} {S₀ : Shape} (d : DotDims (Mat M K) (Mat K N) (Mat M N)) (hd : d = DotDims.plain M K N)
    (x : FVec Ideal (Mat M K) .f32) (w : FVec Ideal (Mat K N) .f32) (b : FVec Ideal (Vct N) .f32)
    (h1 : (Vct N).BroadcastsInDim (Mat 1 N) ![1]) (h2 : (Mat 1 N).BroadcastsInDim (Mat M N) ![0, 1]) (dims : Fin S₀.rank → Fin 2) (h0 : S₀.BroadcastsInDim (Mat M N) dims) (i : Fin M) (j : Fin N) :
    maximumf (addf (Host.dotGeneral d none x w) (broadcastInDim (Mat M N) ![0, 1] h2 (broadcastInDim (Mat 1 N) ![1] h1 b)))
        (broadcastInDim (Mat M N) dims h0 (constant (F := Ideal) S₀ .f32 0x00000000#32)) (ix2 i j)
      = dense (fun k => x (ix2 i k)) w b j := by
  subst hd
  rw [maximumf_apply, addf_apply, host_row]
  simp only [Host.dotGeneral]
  rw [Ideal.dotGeneral_apply, plain_sum]
  show max _ (Ideal.ofBits .f32 0x00000000#32) = _
  rw [Ideal.ofBits_zero_f32]
  rfl

/-- A vector cast to a column reads the vector at the row, … -/
theorem to_column {α : Type} {M : Nat} (v : (Vct M).Idx → α) (h : (Vct M).ShapeCasts (Mat M 1)) (i : Fin M) :
    shapeCast (Mat M 1) v h (ix2 i (0 : Fin 1)) = v (ix1 i) := by
  refine shapeCast_apply _ _ _ _ ?_
  rw [rowMajor_val1, rowMajor_val2 _ 1 rfl]
  show i.val = i.val * 1 + 0
  omega
/-- … and a column cast to a vector reads the column at the row. -/
theorem of_column {α : Type} {M : Nat} (v : (Mat M 1).Idx → α) (h : (Mat M 1).ShapeCasts (Vct M)) (i : Fin M) :
    shapeCast (Vct M) v h (ix1 i) = v (ix2 i (0 : Fin 1)) := by
  refine shapeCast_apply _ _ _ _ ?_
  rw [rowMajor_val1, rowMajor_val2 _ 1 rfl]
  show i.val * 1 + 0 = i.val
  omega

/-- A matrix summed along its rows, read at a row. -/
theorem sum_row {M N : Nat} (v : FVec Ideal (Mat M N) .f32) (acc : BitVec 32) (h : (Mat M N).Reduces [1] (Vct M)) (hφ : FKind.Formats .f32)
    (hacc : acc = FKind.add.neutral .f32 hφ) (i : Fin M) :
    multiReduction .add [1] (Vct M) v acc h hφ hacc (ix1 i) = ∑ k : Fin N, v (ix2 i k) := by
  refine (Ideal.multiReduction_add_single v acc h hφ hacc (ix1 i)).trans ?_
  refine Finset.sum_congr rfl fun k _ => congrArg v (funext fun a => Fin.ext ?_)
  match a with
  | ⟨0, _⟩ => rfl
  | ⟨1, _⟩ => rfl

/-- The kernel's last product: every entry of the row times the weight of its column, summed along the row. -/
theorem kernel_last {M N : Nat} (v : FVec Ideal (Mat M N) .f32) (wd : FVec Ideal (Vct N) .f32) (acc : BitVec 32) (hr : (Mat M N).Reduces [1] (Vct M)) (hφ : FKind.Formats .f32)
    (hacc : acc = FKind.add.neutral .f32 hφ) (hc : (Vct M).ShapeCasts (Mat M 1)) (hs : (Vct N).ShapeCasts (Vct N))
    (h1 : (Vct N).ShapeCasts (Mat 1 N)) (hb : (Mat 1 N).Broadcasts (Mat M N)) (i : Fin M) :
    shapeCast (Mat M 1) (multiReduction .add [1] (Vct M) (mulf v (broadcastTo (Mat M N) (shapeCast (Mat 1 N) (shapeCast (Vct N) wd hs) h1) hb)) acc hr hφ hacc) hc (ix2 i (0 : Fin 1))
      = ∑ k : Fin N, v (ix2 i k) * wd (ix1 k) := by
  rw [to_column]
  refine (sum_row _ acc hr hφ hacc i).trans (Finset.sum_congr rfl fun k _ => ?_)
  rw [mulf_apply, kernel_row, shapeCast_self]

/-- The reference's last product at a row: the row times the one column of the weights, plus the last bias. -/
theorem host_last {M K : Nat} (d : DotDims (Mat M K) (Mat K 1) (Mat M 1)) (hd : d = DotDims.plain M K 1) (x : FVec Ideal (Mat M K) .f32) (w : FVec Ideal (Mat K 1) .f32)
    (b : FVec Ideal (Vct 1) .f32) (h1 : (Vct 1).BroadcastsInDim (Mat 1 1) ![1]) (h2 : (Mat 1 1).BroadcastsInDim (Mat M 1) ![0, 1]) (i : Fin M) :
    addf (Host.dotGeneral d none x w) (broadcastInDim (Mat M 1) ![0, 1] h2 (broadcastInDim (Mat 1 1) ![1] h1 b)) (ix2 i (0 : Fin 1))
      = (∑ k : Fin K, x (ix2 i k) * w (ix2 k (0 : Fin 1))) + b (ix1 (0 : Fin 1)) := by
  subst hd
  rw [addf_apply, host_row]
  simp only [Host.dotGeneral]
  rw [Ideal.dotGeneral_apply, plain_sum]

/-- The reference's logistic, spelt `1 / (1 + exp (−o))`. -/
theorem host_sigmoid {s S₀ : Shape} (dims : Fin S₀.rank → Fin s.rank) (h0 : S₀.BroadcastsInDim s dims) (o : FVec Ideal s .f32) (i : s.Idx) :
    Host.divf (broadcastInDim s dims h0 (constant (F := Ideal) S₀ .f32 0x3F800000#32))
      (addf (broadcastInDim s dims h0 (constant (F := Ideal) S₀ .f32 0x3F800000#32)) (Host.exp (Host.negf o))) i = sigmoid (o i) := by
  have e : Host.divf (broadcastInDim s dims h0 (constant (F := Ideal) S₀ .f32 0x3F800000#32))
      (addf (broadcastInDim s dims h0 (constant (F := Ideal) S₀ .f32 0x3F800000#32)) (Host.exp (Host.negf o))) i
      = Ideal.div (Ideal.ofBits .f32 0x3F800000#32) (Ideal.ofBits .f32 0x3F800000#32 + Ideal.exp (-(o i))) := rfl
  rw [e, Ideal.ofBits_one_f32]
  rfl

end Cert.Proof.Layers

end
-- ==== Proof.KernelValue.lean ====
/-
  The kernel's result at the ideal values: entry `r` of the result is the score of row `r` of the gathered features.
-/
module

public import proofs.«01_k».proof.Proof.Main
public import proofs.«01_k».proof.Proof.Layers

@[expose] public section

noncomputable section

namespace Cert.Proof.Run

open Cert.KernelIdeal Cert.KernelIdeal.Gen Cert.Proof.Layers
open Idealize.ShloMosaic hiding ix1 ix2
open Idealize.ShloMosaic.TcCoe Idealize.ShloMosaic.ValueIdx

/-- The last bias and the logistic, at one entry of the column. -/
theorem pay1_apply (v : FVec Ideal S4096x1 .f32) (bd : Vec Ideal S1 .f32) (y : Fin 4096) :
    k1_pay1 v bd (ix2 y (0 : Fin 1)) = sigmoid (v (ix2 y (0 : Fin 1)) + bd (ix1 (0 : Fin 1))) := by
  have e : k1_pay1 v bd (ix2 y (0 : Fin 1)) = Ideal.div (Ideal.ofBits .f32 0x3F800000#32)
      (Ideal.ofBits .f32 0x3F800000#32 + Ideal.exp (Ideal.ofBits .f32 0x00000000#32 - (v (ix2 y (0 : Fin 1)) + extractAt ![0] bd inpos_S1_p0))) := rfl
  have eb : extractAt ![0] bd inpos_S1_p0 = bd (ix1 (0 : Fin 1)) := congrArg bd (funext fun a => Fin.ext (by
    match a with
    | ⟨0, _⟩ => rfl))
  rw [e, eb, Ideal.ofBits_one_f32, Ideal.ofBits_zero_f32, zero_sub]
  rfl

/-- The three dense layers and the sum along a row, at one entry of the column. -/
theorem pay2_apply (x : Vec Ideal S4096x256 .f32) (w1 : Vec Ideal S256x1024 .f32) (b1 : Vec Ideal S1024 .f32) (w2 : Vec Ideal S1024x512 .f32)
    (b2 : Vec Ideal S512 .f32) (w3 : Vec Ideal S512x256 .f32) (b3 : Vec Ideal S256 .f32) (wd : Vec Ideal S256 .f32) (y : Fin 4096) :
    k1_pay2 x w1 b1 w2 b2 w3 b3 wd (ix2 y (0 : Fin 1))
      = ∑ k : Fin 256, dense (dense (dense (fun k => x (ix2 y k)) w1 b1) w2 b2) w3 b3 k * wd (ix1 k) := by
  unfold k1_pay2
  dsimp only
  refine (kernel_last _ wd _ _ _ _ _ _ _ _ y).trans (Finset.sum_congr rfl fun k _ => congrArg (· * wd (ix1 k)) ?_)
  refine (kernel_dense _ rfl _ w3 b3 _ _ _ y k).trans (congrArg (fun x => dense x w3 b3 k) (funext fun k => ?_))
  refine (kernel_dense _ rfl _ w2 b2 _ _ _ y k).trans (congrArg (fun x => dense x w2 b2 k) (funext fun k => ?_))
  refine (kernel_dense _ rfl _ w1 b1 _ _ _ y k).trans ?_
  rw [shapeCast_self]

/-- Entry `r` of the kernel's column is the score of row `r` of the features. -/
theorem mlpAll_score (x : Vec Ideal S16384x256 .f32) (w1 : Vec Ideal S256x1024 .f32) (b1 : Vec Ideal S1024 .f32) (w2 : Vec Ideal S1024x512 .f32)
    (b2 : Vec Ideal S512 .f32) (w3 : Vec Ideal S512x256 .f32) (b3 : Vec Ideal S256 .f32) (wd : Vec Ideal S256 .f32) (bd : Vec Ideal S1 .f32) (r : Fin 16384) :
    mlpAll x w1 b1 w2 b2 w3 b3 wd bd (ix2 r (0 : Fin 1))
      = score (fun k => x (ix2 r k)) w1 b1 w2 b2 w3 b3 (fun k => wd (ix1 k)) (bd (ix1 (0 : Fin 1))) := by
  have hr := r.isLt
  rw [mlpAll_apply x w1 b1 w2 b2 w3 b3 wd bd ⟨r.val / 4096, by omega⟩ (ix2 (⟨r.val % 4096, by omega⟩ : Fin 4096) (0 : Fin 1)) (ix2 r (0 : Fin 1))
    (by show r.val = 4096 * (r.val / 4096) + r.val % 4096; omega) rfl]
  refine (pay1_apply _ _ _).trans ?_
  rw [pay2_apply]
  unfold score
  refine congrArg (fun x => sigmoid ((∑ k : Fin 256, dense (dense (dense x w1 b1) w2 b2) w3 b3 k * wd (ix1 k)) + bd (ix1 (0 : Fin 1)))) (funext fun k => ?_)
  refine congrArg x (funext fun a => Fin.ext ?_)
  match a with
  | ⟨0, _⟩ => show 4096 * (r.val / 4096) + r.val % 4096 = r.val; omega
  | ⟨1, _⟩ => rfl

variable (m : (ℓ : Loc nD τ sig) → Buf (Elt Ideal) ℓ)

/-- Entry `r` of the program's result is the score of row `r` of the gathered features. -/
theorem resK_score (c : Dev nD) (r : Fin 16384) :
    resK m c (ix1 r) = score (fun k => X m c (ix2 r k)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg9))
      (fun k => m ((c.tc : Thread nD τ).loc main_arg10) (ix2 k (0 : Fin 1))) (m ((c.tc : Thread nD τ).loc main_arg11) (ix1 (0 : Fin 1))) := by
  unfold resK
  refine (of_column _ _ r).trans ((mlpAll_score _ _ _ _ _ _ _ _ _ r).trans ?_)
  exact congrArg (fun wd => score _ _ _ _ _ _ _ wd _) (funext fun k => of_column _ _ k)

end Cert.Proof.Run

end
-- ==== Proof.Lookup.lean ====
/-
  The reference's table lookup: `jnp.take` along axis 0 wraps a negative index once, gathers the rows at the clamped
  indices and puts a NaN in the rows whose index is out of range. At indices inside the table it is the table's row.
-/
module

public import proofs.«01_k».proof.Proof.Layers
public import Idealize.ShloMosaic.Lib.ReduceAll

@[expose] public section

noncomputable section

namespace Cert.Proof.Lookup

open Cert.Proof.Layers
open Idealize.ShloMosaic hiding ix1 ix2
open Idealize.ShloMosaic.ValueIdx

/-- The dimension numbers of a lookup of whole rows. -/
abbrev rowDims (N C R : Nat) (wf : GatherDims.WF (Mat N C) (Mat R 1) (Mat R C) [1] [0] [] [0] [] 1 ![1, C]) :
    GatherDims (Mat N C) (Mat R 1) (Mat R C) where
  offsetDims := [1]
  collapsedSliceDims := [0]
  operandBatchingDims := []
  startIndicesBatchingDims := []
  startIndexMap := [0]
  indexVectorDim := 1
  sliceSizes := ![1, C]
  wf := wf

/-- The lookup of whole rows at a row and a column: the table's row at the index read signed and clamped. -/
theorem gather_rows_apply {α : Type} {N C R w : Nat} (hN : 0 < N) (wf : GatherDims.WF (Mat N C) (Mat R 1) (Mat R C) [1] [0] [] [0] [] 1 ![1, C])
    (x : (Mat N C).Idx → α) (idx : IVec (Mat R 1) w) (r : Fin R) (k : Fin C) :
    Host.gather (rowDims N C R wf) x idx (ix2 r k) = x (ix2 ⟨min (idx (ix2 r (0 : Fin 1))).toInt.toNat (N - 1), by omega⟩ k) := by
  unfold Host.gather
  refine congrArg x (funext fun a => Fin.ext ?_)
  show (rowDims N C R wf).start (ix2 r k) idx a + (rowDims N C R wf).batchCoord (ix2 r k) a + (rowDims N C R wf).offCoord (ix2 r k) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N C R wf).startIndexMap from List.mem_singleton.mpr rfl)]
    have hs : (rowDims N C R wf).siIdx (ix2 r k) ⟨List.idxOf (0 : Fin 2) (rowDims N C R wf).startIndexMap, List.idxOf_lt_length_iff.2 (List.mem_singleton.mpr rfl)⟩
        = ix2 r (0 : Fin 1) := by
      funext b
      refine Fin.ext ?_
      match b with
      | ⟨0, _⟩ => rfl
      | ⟨1, _⟩ => rfl
    exact congrArg (fun q => min (idx q).toInt.toNat (N - 1)) hs
  · have h0 : (rowDims N C R wf).start (ix2 r k) idx 1 = 0 := by
      unfold GatherDims.start
      rw [dif_neg (fun h => absurd (congrArg Fin.val (List.mem_singleton.mp h)) Nat.one_ne_zero)]
    exact (congrArg (· + (rowDims N C R wf).offCoord (ix2 r k) 1) h0).trans (Nat.zero_add _)

/-- An index below 2³¹ is not negative, so the wrap leaves it. -/
theorem wrap_eq {s S₀ : Shape} (dims : Fin S₀.rank → Fin s.rank) (h0 : S₀.BroadcastsInDim s dims) (idx : IVec s 32) (nw : BitVec 32)
    (h : ∀ i, (idx i).toNat < 2 ^ 31) :
    select (cmpi .slt idx (broadcastInDim s dims h0 (constantI S₀ 32 0#32))) (addi idx (broadcastInDim s dims h0 (constantI S₀ 32 nw))) idx = idx := by
  funext i
  have hc : IntOp.cmpi .slt (idx i) 0#32 = 0#1 := by
    have hi := h i
    show BitVec.ofBool ((idx i).slt 0#32) = 0#1
    have : (idx i).slt 0#32 = false := by
      rw [BitVec.slt_eq_decide, decide_eq_false_iff_not, BitVec.toInt_eq_toNat_cond]
      simp only [BitVec.toInt_zero]
      split <;> omega
    rw [this]
    rfl
  show Scalar.select (IntOp.cmpi .slt (idx i) 0#32) _ (idx i) = idx i
  rw [hc]
  exact select_zero _ _

/-- The bound check: a word between 0 and the limit passes. -/
theorem inside_eq_one (v lw : BitVec 32) (hv : v.toNat ≤ lw.toNat) (hl : lw.toNat < 2 ^ 31) :
    IntOp.andi (IntOp.cmpi .sge v 0#32) (IntOp.cmpi .sle v lw) = 1#1 := by
  have e1 : (0#32 : BitVec 32).sle v = true := by
    rw [BitVec.sle_eq_decide, decide_eq_true_eq, BitVec.toInt_eq_toNat_cond, BitVec.toInt_eq_toNat_cond]
    simp only [BitVec.toNat_ofNat]
    split <;> split <;> omega
  have e2 : v.sle lw = true := by
    rw [BitVec.sle_eq_decide, decide_eq_true_eq, BitVec.toInt_eq_toNat_cond, BitVec.toInt_eq_toNat_cond]
    split <;> split <;> omega
  show BitVec.ofBool ((0#32 : BitVec 32).sle v) &&& BitVec.ofBool (v.sle lw) = 1#1
  rw [e1, e2]
  rfl

/-- The whole lookup at a row and a column, every index inside the table: the table's row at the index. -/
theorem lookup_apply {α : Type} {N C R : Nat} {S₀ S₁ S₂ S₃ : Shape} (wf : GatherDims.WF (Mat N C) (Mat R 1) (Mat R C) [1] [0] [] [0] [] 1 ![1, C])
    (hN0 : 0 < N) (hN : N ≤ 2 ^ 31) (d0 : Fin S₀.rank → Fin 1) (h0 : S₀.BroadcastsInDim (Vct R) d0) (hc : (Vct R).BroadcastsInDim (Mat R 1) ![0])
    (d1 : Fin S₀.rank → Fin 2) (h1 : S₀.BroadcastsInDim (Mat R 1) d1) (d2 : Fin S₁.rank → Fin S₂.rank) (h2 : S₁.BroadcastsInDim S₂ d2)
    (d3 : Fin S₂.rank → Fin 2) (h3 : S₂.BroadcastsInDim (Mat R 1) d3) (hm : (Vct R).BroadcastsInDim (Mat R C) ![0])
    {axes : List (Fin 2)} (hr : (Mat R 1).ReducesTo axes (Vct R)) (hu : 0 < S₃.numel)
    (idx : IVec (Vct R) 32) (x y : (Mat R C).Idx → α) (t : (Mat N C).Idx → α) (nw lw : BitVec 32) (hlw : lw.toNat = N - 1)
    (h : ∀ i, (idx i).toNat < N)
    (hx : x = Host.gather (rowDims N C R wf) t (broadcastInDim (Mat R 1) ![0] hc
      (select (cmpi .slt idx (broadcastInDim (Vct R) d0 h0 (constantI S₀ 32 0#32))) (addi idx (broadcastInDim (Vct R) d0 h0 (constantI S₀ 32 nw))) idx)))
    (r : Fin R) (k : Fin C) :
    select (broadcastInDim (Mat R C) ![0] hm (Host.reduce IntOp.andi
        (andi (cmpi .sge (broadcastInDim (Mat R 1) ![0] hc
            (select (cmpi .slt idx (broadcastInDim (Vct R) d0 h0 (constantI S₀ 32 0#32))) (addi idx (broadcastInDim (Vct R) d0 h0 (constantI S₀ 32 nw))) idx))
              (broadcastInDim (Mat R 1) d1 h1 (constantI S₀ 32 0#32)))
          (cmpi .sle (broadcastInDim (Mat R 1) ![0] hc
            (select (cmpi .slt idx (broadcastInDim (Vct R) d0 h0 (constantI S₀ 32 0#32))) (addi idx (broadcastInDim (Vct R) d0 h0 (constantI S₀ 32 nw))) idx))
              (broadcastInDim (Mat R 1) d3 h3 (broadcastInDim S₂ d2 h2 (constantI S₁ 32 lw)))))
        (constantI S₃ 1 1#1) hr hu)) x y (ix2 r k)
      = t (ix2 ⟨(idx (ix1 r)).toNat, h _⟩ k) := by
  have hw := wrap_eq d0 h0 idx nw fun i => lt_of_lt_of_le (h i) hN
  subst hx
  rw [hw]
  have hmask : Host.reduce IntOp.andi
        (andi (cmpi .sge (broadcastInDim (Mat R 1) ![0] hc idx) (broadcastInDim (Mat R 1) d1 h1 (constantI S₀ 32 0#32)))
          (cmpi .sle (broadcastInDim (Mat R 1) ![0] hc idx) (broadcastInDim (Mat R 1) d3 h3 (broadcastInDim S₂ d2 h2 (constantI S₁ 32 lw)))))
        (constantI S₃ 1 1#1) hr hu = fun _ => 1#1 := by
    funext j
    refine Host.reduce_andi_one _ _ hr hu j rfl fun i => ?_
    exact inside_eq_one _ lw (Nat.le_of_lt_succ (lt_of_lt_of_le (show (broadcastInDim (Mat R 1) ![0] hc idx i).toNat < N from h _) (by omega))) (by omega)
  rw [hmask]
  refine (select_one _ _).trans ?_
  rw [gather_rows_apply hN0]
  have hi : broadcastInDim (Mat R 1) ![0] hc idx (ix2 r (0 : Fin 1)) = idx (ix1 r) := by
    refine broadcastInDim_apply _ _ _ _ _ fun a => ?_
    match a with
    | ⟨0, _⟩ =>
      show r.val = if R = 1 then 0 else r.val
      split
      · have := r.isLt; omega
      · rfl
  refine congrArg t (funext fun a => Fin.ext ?_)
  match a with
  | ⟨0, _⟩ =>
    show min (broadcastInDim (Mat R 1) ![0] hc idx (ix2 r (0 : Fin 1))).toInt.toNat (N - 1) = (idx (ix1 r)).toNat
    rw [hi, BitVec.toInt_eq_toNat_cond]
    have := h (ix1 r)
    split <;> omega
  | ⟨1, _⟩ => rfl

end Cert.Proof.Lookup

end
-- ==== Proof.RefValue.lean ====
/-
  The reference's result at the ideal values: where every row number is inside its table, entry `r` of the result is
  the score of row `r` of the features the two lookups gather.
-/
module

public import proofs.«01_k».proof.Proof.Setup
public import proofs.«01_k».proof.Proof.Lookup
public import proofs.«01_k».proof.Proof.Gen.ReferenceIdeal.Run

@[expose] public section

noncomputable section

namespace Cert.Proof.Reference

open Cert.ReferenceIdeal Cert.ReferenceIdeal.Gen Cert.Proof.Layers Cert.Proof.Lookup
open Idealize.ShloMosaic hiding ix1 ix2
open Idealize.ShloMosaic.TcCoe Idealize.ShloMosaic.ValueIdx

variable (m : (ℓ : Loc nD τ sig) → Buf (Elt Ideal) ℓ) (c : Dev nD)

/-- Entry `r` of the reference's result is the score of row `r` of the features. -/
theorem result_score (hu : ∀ i, (m (c.tc.loc main_arg0) i).toNat < 100001) (hi : ∀ i, (m (c.tc.loc main_arg1) i).toNat < 1000001) (r : Fin 16384) :
    Value.res_out0 m c (ix1 r)
      = score (fun k => Run.xVal (F := Ideal) (m (c.tc.loc main_arg0)) (m (c.tc.loc main_arg1)) (m (c.tc.loc main_arg2)) (m (c.tc.loc main_arg3)) (ix2 r k))
          (m (c.tc.loc main_arg4)) (m (c.tc.loc main_arg5)) (m (c.tc.loc main_arg6)) (m (c.tc.loc main_arg7)) (m (c.tc.loc main_arg8)) (m (c.tc.loc main_arg9))
          (fun k => m (c.tc.loc main_arg10) (ix2 k (0 : Fin 1))) (m (c.tc.loc main_arg11) (ix1 (0 : Fin 1))) := by
  unfold Value.res_out0 Value.res_main_v28 score
  refine (of_column _ _ r).trans ((host_sigmoid _ _ _ _).trans (congrArg sigmoid ?_))
  refine (host_last _ rfl _ _ _ _ _ r).trans (congrArg (· + m (c.tc.loc main_arg11) (ix1 (0 : Fin 1))) (Finset.sum_congr rfl fun k _ =>
    congrArg (· * m (c.tc.loc main_arg10) (ix2 k (0 : Fin 1))) ?_))
  refine (host_dense _ rfl _ _ _ _ _ _ _ r k).trans (congrArg (fun x => dense x _ _ k) (funext fun k => ?_))
  refine (host_dense _ rfl _ _ _ _ _ _ _ r k).trans (congrArg (fun x => dense x _ _ k) (funext fun k => ?_))
  refine (host_dense _ rfl _ _ _ _ _ _ _ r k).trans (congrArg (fun x => dense x _ _ k) (funext fun k => ?_))
  unfold Run.xVal
  by_cases hk : k.val < 128
  · rw [dif_pos (show ((ix2 r k : (Mat 16384 256).Idx) 1).val < 128 from hk)]
    refine (concatenate_pair_apply_left (s₁ := S16384x128) (s₂ := S16384x128) 1 _ _ _ (ix2 r k) rfl (ix2 r (⟨k.val, hk⟩ : Fin 128)) fun a => ?_).trans ?_
    · match a with
      | ⟨0, _⟩ => rfl
      | ⟨1, _⟩ => rfl
    refine (lookup_apply (N := 100001) _ (by decide) (by decide) _ _ _ _ _ _ _ _ _ _ _ _ _ _ _ _ _ _ (by decide) hu rfl r _).trans ?_
    refine congrArg (m (c.tc.loc main_arg2)) (funext fun a => Fin.ext ?_)
    match a with
    | ⟨0, _⟩ => exact (Nat.mod_eq_of_lt (hu _)).symm
    | ⟨1, _⟩ => rfl
  · rw [dif_neg (show ¬ ((ix2 r k : (Mat 16384 256).Idx) 1).val < 128 from hk)]
    have hk' := k.isLt
    refine (concatenate_pair_apply_right (s₁ := S16384x128) (s₂ := S16384x128) 1 _ _ _ (ix2 r k) rfl rfl (ix2 r (⟨k.val - 128, by omega⟩ : Fin 128)) (fun a ha => ?_) ?_).trans ?_
    · match a with
      | ⟨0, _⟩ => rfl
      | ⟨1, _⟩ => exact absurd rfl ha
    · show k.val - 128 + 128 = k.val
      omega
    refine (lookup_apply (N := 1000001) _ (by decide) (by decide) _ _ _ _ _ _ _ _ _ _ _ _ _ _ _ _ _ _ (by decide) hi rfl r _).trans ?_
    refine congrArg (m (c.tc.loc main_arg3)) (funext fun a => Fin.ext ?_)
    match a with
    | ⟨0, _⟩ => exact (Nat.mod_eq_of_lt (hi _)).symm
    | ⟨1, _⟩ => rfl

end Cert.Proof.Reference

end
-- ==== Proof.Range.lean ====
/-
  What the precondition gives: as jax computes it, `all((0 ≤ user) & (user < 100000)) & all((0 ≤ item) & (item < 1000000))`
  is one only where every row number, read unsigned, is below its bound.
-/
module

public import proofs.«01_k».proof.Pre_pre
public import Idealize.ShloMosaic.Lib.ReduceAll
public import Idealize.ShloMosaic.Lib.WordCmp

@[expose] public section

namespace Cert.Proof.Range

open Idealize.ShloMosaic Idealize.ShloMosaic.WordCmp

/-- A word that is at least zero and below `w`, both read signed, is below `w` read unsigned. -/
theorem toNat_lt (v w : BitVec 32) (hw : w.toNat < 2 ^ 31) (e : IntOp.andi (IntOp.cmpi .sge v 0#32) (IntOp.cmpi .slt v w) = 1#1) : v.toNat < w.toNat := by
  have e' : BitVec.ofBool ((0#32 : BitVec 32).sle v && v.slt w) = 1#1 := (andi_ofBool _ _).symm.trans e
  simp only [ofBool_eq_one_iff, Bool.and_eq_true, BitVec.sle_eq_decide, BitVec.slt_eq_decide, decide_eq_true_eq,
    BitVec.toInt_eq_toNat_cond, BitVec.toNat_ofNat, Nat.reducePow, Nat.reduceMod] at e'
  omega

/-- Both bits of a conjunction that is one are one. -/
theorem andi_split (a b : BitVec 1) (e : IntOp.andi a b = 1#1) : a = 1#1 ∧ b = 1#1 := by
  revert a b
  decide

/-- Where the precondition is one, every user row number is below 100000 and every item row number below 1000000. -/
theorem of_pre [Cert.Pre_pre.Facts] {F : FTy → Type} [FloatOps F] (user item : IVec Cert.Pre_pre.S16384 32) (a2 : FVec F Cert.Pre_pre.S100001x128 .f32)
    (a3 : FVec F Cert.Pre_pre.S1000001x128 .f32) (a4 : FVec F Cert.Pre_pre.S256x1024 .f32) (a5 : FVec F Cert.Pre_pre.S1024 .f32)
    (a6 : FVec F Cert.Pre_pre.S1024x512 .f32) (a7 : FVec F Cert.Pre_pre.S512 .f32) (a8 : FVec F Cert.Pre_pre.S512x256 .f32)
    (a9 : FVec F Cert.Pre_pre.S256 .f32) (a10 : FVec F Cert.Pre_pre.S256x1 .f32) (a11 : FVec F Cert.Pre_pre.S1 .f32)
    (h : ∀ j, Cert.Pre_pre.fn user item a2 a3 a4 a5 a6 a7 a8 a9 a10 a11 j = 1#1) (i : Cert.Pre_pre.S16384.Idx) :
    (user i).toNat < 100000 ∧ (item i).toNat < 1000000 := by
  have hs : Subsingleton Cert.Pre_pre.S_.Idx := ⟨fun a b => funext fun k => k.elim0⟩
  obtain ⟨eu, ei⟩ := andi_split _ _ (h fun k => k.elim0)
  have ku := Host.reduce_andi_all _ _ _ _ _ eu i
  have ki := Host.reduce_andi_all _ _ _ _ _ ei i
  exact ⟨toNat_lt _ 100000#32 (by decide) ku, toNat_lt _ 1000000#32 (by decide) ki⟩

end Cert.Proof.Range
-- ==== Proof.Same.lean ====
/-
  The two printings of the kernel are one program: the idealization replaced no operation, so the body tables agree body by body.
-/
module

public import proofs.«01_k».proof.Proof.Gen.Kernel
public import proofs.«01_k».proof.Proof.Gen.KernelIdeal

@[expose] public section

namespace Cert.Proof.Same

open Idealize.ShloMosaic

attribute [local instance] Cert.Kernel.Gen.facts Cert.KernelIdeal.Gen.facts

variable {F : FTy → Type} [FloatOps F]

/-- The kernels' body tables agree, on each kind of processor and at each label. -/
theorem bodies_eq : Cert.Kernel.defs₀ (F := F) = Cert.KernelIdeal.defs₀ (F := F) := by
  funext p ℓ a
  rcases p with _ | c | ⟨c, s⟩ <;> rcases ℓ with ⟨_ | _ | ℓ, h⟩ <;> first | rfl | exact absurd h (by omega)

/-- The whole tables, the pipelines' and the launch's labels included, agree. -/
theorem defs_eq : Cert.Kernel.defs (F := F) = Cert.KernelIdeal.defs (F := F) :=
  congrArg (fun d => (Cert.KernelIdeal.sc (F := F)).defs (Pipeline.defs (Cert.KernelIdeal.pcfgs (F := F)) d)) bodies_eq

end Cert.Proof.Same
-- ==== Proof.Claims.lean ====
/-
  The claims, each proved from the kernel's run (`Run.run_main`), the reference's run (`Value.run`) and the two readings of their results as the
  score of each row (`Run.resK_score`, `Reference.result_score`).
-/
module

public import proofs.«01_k».proof.Defs
public import proofs.«01_k».proof.Proof.KernelValue
public import proofs.«01_k».proof.Proof.RefValue
public import proofs.«01_k».proof.Proof.Range
public import proofs.«01_k».proof.Proof.Same
public import proofs.«01_k».proof.Proof.Gen.Pre_pre

@[expose] public section

namespace Cert.Proof

open Idealize.ShloMosaic hiding ix1 ix2
open Idealize.ShloMosaic.TcCoe Idealize.ShloMosaic.ValueIdx Idealize.SL.Sem
open Cert.Proof.Layers

attribute [local instance] Cert.Kernel.Gen.facts Cert.KernelIdeal.Gen.facts Cert.ReferenceIdeal.Gen.facts Cert.Pre_pre.Gen.facts

/-- The precondition gives what the kernel's run asks of the launch memory, over machine floats. -/
theorem ok_of_pre (m : (ℓ : Loc Cert.Kernel.nD Cert.Kernel.τ Cert.Kernel.sig) → Buf (Elt Bits) ℓ) (h : Cert.Pre_Kernel m) : Run.PreOK (F := Bits) m := fun d j =>
  have hr := Range.of_pre (F := Bits) _ _ _ _ _ _ _ _ _ _ _ _ (fun k => congrFun (h d) k) j
  ⟨lt_trans hr.1 (by decide), lt_trans hr.2 (by decide)⟩

/-- The precondition gives what the kernel's run asks of the launch memory, at the ideal values. -/
theorem ok_of_pre_ideal (m : (ℓ : Loc Cert.KernelIdeal.nD Cert.KernelIdeal.τ Cert.KernelIdeal.sig) → Buf (Elt Ideal) ℓ) (h : Cert.Pre_KernelIdeal m) :
    Run.PreOK (F := Ideal) m := fun d j =>
  have hr := Range.of_pre (F := Ideal) _ _ _ _ _ _ _ _ _ _ _ _ (fun k => congrFun (h d) k) j
  ⟨lt_trans hr.1 (by decide), lt_trans hr.2 (by decide)⟩

/-- The kernel, over machine floats, runs to its end, leaves its arguments and every semaphore at zero. -/
theorem frame_kernel : Cert.quiescent_Kernel := fun m ρ hpre => by
  refine (θ_run (Cert.Kernel.defs (F := Bits)) _ _).mono (fun _ h => ⟨fun c => (h.1 c).2, h.2⟩)
    (?_ : θ_run (Cert.Kernel.defs (F := Bits)) (Cert.Kernel.threads (F := Bits)) ⟨m, fun _ => 0, ρ⟩ (Run.QC m))
  rw [Same.defs_eq]
  exact Run.run_main (F := Bits) m ρ (ok_of_pre m hpre)

/-- The kernel, at the ideal values, runs to its end, leaves its arguments and every semaphore at zero. -/
theorem frame_kernelIdeal : Cert.quiescent_KernelIdeal := fun m ρ hpre =>
  (θ_run Cert.KernelIdeal.defs _ _).mono (fun _ h => ⟨fun c => (h.1 c).2, h.2⟩) (Run.run_main (F := Ideal) m ρ (ok_of_pre_ideal m hpre))

/-- The reference runs to its end, leaves its arguments and every semaphore at zero. -/
theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The same of the reference under the precondition. -/
theorem frame_referenceIdeal_pre : Cert.quiescent_ReferenceIdeal_pre_pre := fun m ρ _ => frame_referenceIdeal m ρ trivial

/-- The kernel's result and the reference's, at the ideal values: on every launch memory the precondition admits, the reference launched on the same
    arguments computes the kernel's result, entry by entry. -/
theorem algebraic : Cert.algebraic_KernelIdeal_ReferenceIdeal := fun m ρ m' ρ' hpre hag => by
  have hok := ok_of_pre_ideal m hpre
  refine ⟨fun c => Run.resK m c, (θ_run Cert.KernelIdeal.defs _ _).mono (fun _ h c => h.1 c) (Run.run_main (F := Ideal) m ρ hok),
    (θ_run Cert.ReferenceIdeal.defs _ _).mono (fun _ h c => ⟨(h c).1.trans ?_, (h c).2⟩) (Cert.ReferenceIdeal.Value.run (F := Ideal) m' ρ')⟩
  obtain ⟨e0, e1, e2, e3, e4, e5, e6, e7, e8, e9, e10, e11⟩ := hag c
  funext j
  obtain ⟨r, rfl⟩ : ∃ r : Fin 16384, j = ix1 r := ⟨_, ValueIdx.eq_ix1 j⟩
  refine (Reference.result_score m' c (fun i => ?_) (fun i => ?_) r).trans (Eq.trans ?_ (Run.resK_score m c r).symm)
  · rw [e0]
    exact (hok c i).1
  · rw [e1]
    exact (hok c i).2
  · rw [e0, e1, e2, e3, e4, e5, e6, e7, e8, e9, e10, e11]

end Cert.Proof
-- ==== Proof.lean ====
/-
  The certificate: the witnesses of the programs' stated facts, then the claims in the order `Cert.Claim` lists them. The proofs are in `Proof/Claims.lean`.
-/
module

public import proofs.«01_k».proof.Proof.Claims

@[expose] public section

namespace Cert.Proof

/-- Everything the certificate claims. -/
theorem claim : Cert.Claim :=
  ⟨Cert.Kernel.Gen.facts, Cert.KernelIdeal.Gen.facts, Cert.ReferenceIdeal.Gen.facts, Cert.Pre_pre.Gen.facts,
    frame_kernel, frame_kernelIdeal, frame_referenceIdeal, frame_referenceIdeal_pre, trivial, algebraic⟩

end Cert.Proof
